-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x2048 : Shape := ⟨3, ![8, 2048, 2048]⟩
abbrev S128x128 : Shape := ⟨2, ![128, 128]⟩
abbrev S2048x12288 : Shape := ⟨2, ![2048, 12288]⟩
abbrev S12288 : Shape := ⟨1, ![12288]⟩
abbrev S6144x2048 : Shape := ⟨2, ![6144, 2048]⟩
abbrev S2048 : Shape := ⟨1, ![2048]⟩
abbrev S_ : Shape := ⟨0, ![]⟩
abbrev S128x256 : Shape := ⟨2, ![128, 256]⟩
abbrev S256x256 : Shape := ⟨2, ![256, 256]⟩
abbrev S1x12288 : Shape := ⟨2, ![1, 12288]⟩
abbrev S1x2048 : Shape := ⟨2, ![1, 2048]⟩
abbrev S16384x2048 : Shape := ⟨2, ![16384, 2048]⟩
abbrev S16384x1 : Shape := ⟨2, ![16384, 1]⟩
abbrev S16384x6144 : Shape := ⟨2, ![16384, 6144]⟩
abbrev S256x2048 : Shape := ⟨2, ![256, 2048]⟩
abbrev S256x1 : Shape := ⟨2, ![256, 1]⟩
abbrev S256x6144 : Shape := ⟨2, ![256, 6144]⟩
abbrev S256 : Shape := ⟨1, ![256]⟩
abbrev S2048x512 : Shape := ⟨2, ![2048, 512]⟩
abbrev S256x512 : Shape := ⟨2, ![256, 512]⟩
abbrev S1x512 : Shape := ⟨2, ![1, 512]⟩
abbrev S6144x512 : Shape := ⟨2, ![6144, 512]⟩

abbrev nBuf : Space → Nat
  | .hbm => 20
  | .vmem => 18
  | .smem => 0
  | _ => 0

abbrev bufTy : (tb : Table) → Fin (tcTables nBuf tb) → BufTy
  | .hbm, ⟨0, _⟩ => ⟨S8x2048x2048, .f32⟩
  | .hbm, ⟨1, _⟩ => ⟨S128x128, .f32⟩
  | .hbm, ⟨2, _⟩ => ⟨S2048x12288, .fp8e4m3⟩
  | .hbm, ⟨3, _⟩ => ⟨S12288, .f32⟩
  | .hbm, ⟨4, _⟩ => ⟨S6144x2048, .fp8e4m3⟩
  | .hbm, ⟨5, _⟩ => ⟨S2048, .f32⟩
  | .hbm, ⟨6, _⟩ => ⟨S_, .f32⟩
  | .hbm, ⟨7, _⟩ => ⟨S128x128, .f32⟩
  | .hbm, ⟨8, _⟩ => ⟨S128x256, .f32⟩
  | .hbm, ⟨9, _⟩ => ⟨S128x256, .f32⟩
  | .hbm, ⟨10, _⟩ => ⟨S256x256, .f32⟩
  | .hbm, ⟨11, _⟩ => ⟨S256x256, .bf16⟩
  | .hbm, ⟨12, _⟩ => ⟨S1x12288, .f32⟩
  | .hbm, ⟨13, _⟩ => ⟨S1x2048, .f32⟩
  | .hbm, ⟨14, _⟩ => ⟨S16384x2048, .f32⟩
  | .hbm, ⟨15, _⟩ => ⟨S16384x2048, .f32⟩
  | .hbm, ⟨16, _⟩ => ⟨S16384x2048, .fp8e4m3⟩
  | .hbm, ⟨17, _⟩ => ⟨S16384x1, .f32⟩
  | .hbm, ⟨18, _⟩ => ⟨S16384x6144, .fp8e4m3⟩
  | .hbm, ⟨19, _⟩ => ⟨S16384x1, .f32⟩
  | .local _ .vmem, ⟨0, _⟩ => ⟨S256x2048, .f32⟩
  | .local _ .vmem, ⟨1, _⟩ => ⟨S256x2048, .f32⟩
  | .local _ .vmem, ⟨2, _⟩ => ⟨S256x256, .bf16⟩
  | .local _ .vmem, ⟨3, _⟩ => ⟨S2048x12288, .fp8e4m3⟩
  | .local _ .vmem, ⟨4, _⟩ => ⟨S1x12288, .f32⟩
  | .local _ .vmem, ⟨5, _⟩ => ⟨S6144x2048, .fp8e4m3⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .fp8e4m3⟩
  | .local _ .vmem, ⟨10, _⟩ => ⟨S256x2048, .fp8e4m3⟩
  | .local _ .vmem, ⟨11, _⟩ => ⟨S256x1, .f32⟩
  | .local _ .vmem, ⟨12, _⟩ => ⟨S256x1, .f32⟩
  | .local _ .vmem, ⟨13, _⟩ => ⟨S256x6144, .fp8e4m3⟩
  | .local _ .vmem, ⟨14, _⟩ => ⟨S256x6144, .fp8e4m3⟩
  | .local _ .vmem, ⟨15, _⟩ => ⟨S256x1, .f32⟩
  | .local _ .vmem, ⟨16, _⟩ => ⟨S256x1, .f32⟩
  | .local _ .vmem, ⟨17, _⟩ => ⟨S256x6144, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_call0_v0 : Ref sig .tc := ⟨.hbm, 8, rfl⟩
abbrev main_call0_v1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v6_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c12_i32 : BitVec 32 := 12#32
  let v183 : BitVec 32 := Scalar.addi c0_i32 c12_i32
  let c1_i32 : BitVec 32 := 1#32
  ⟨c0_i32, v183, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32 : BitVec 32 := 512#32
  let v320 : BitVec 32 := Scalar.muli arg13 c512_i32
  v320
def k0_off1 (k0_t1 : Fin k0_t1_loop.trips) : Fin 2 → Nat :=
  let c0_160 : Index := 0#32
  let c0_i32 : BitVec 32 := 0#32
  let c1_i32 : BitVec 32 := 1#32
  let arg13 : BitVec 32 := Scf.iv c0_i32 c1_i32 k0_t1
  let c512_i32 : BitVec 32 := 512#32
  let v320 : BitVec 32 := Scalar.muli arg13 c512_i32
  let v321 : BitVec 32 := v320
  let v324 : Index := Scalar.indexCast v321
  ![0, v324.toNat]
def k0_off2 (k0_t1 : Fin k0_t1_loop.trips) : Fin 2 → Nat :=
  let c0_162 : Index := 0#32
  let c6144_i32 : BitVec 32 := 6144#32
  let c0_i32 : BitVec 32 := 0#32
  let c1_i32 : BitVec 32 := 1#32
  let arg13 : BitVec 32 := Scf.iv c0_i32 c1_i32 k0_t1
  let c512_i32 : BitVec 32 := 512#32
  let v320 : BitVec 32 := Scalar.muli arg13 c512_i32
  let v321 : BitVec 32 := v320
  let v327 : BitVec 32 := Scalar.addi c6144_i32 v321
  let v328 : Index := Scalar.indexCast v327
  ![0, v328.toNat]
def k0_off3 (k0_t1 : Fin k0_t1_loop.trips) : Fin 2 → Nat :=
  let c0_164 : Index := 0#32
  let c0_i32 : BitVec 32 := 0#32
  let c1_i32 : BitVec 32 := 1#32
  let arg13 : BitVec 32 := Scf.iv c0_i32 c1_i32 k0_t1
  let c512_i32 : BitVec 32 := 512#32
  let v320 : BitVec 32 := Scalar.muli arg13 c512_i32
  let v321 : BitVec 32 := v320
  let v333 : Index := Scalar.indexCast v321
  ![0, v333.toNat]
def k0_off4 (k0_t1 : Fin k0_t1_loop.trips) : Fin 2 → Nat :=
  let c0_166 : Index := 0#32
  let c6144_i32_165 : BitVec 32 := 6144#32
  let c0_i32 : BitVec 32 := 0#32
  let c1_i32 : BitVec 32 := 1#32
  let arg13 : BitVec 32 := Scf.iv c0_i32 c1_i32 k0_t1
  let c512_i32 : BitVec 32 := 512#32
  let v320 : BitVec 32 := Scalar.muli arg13 c512_i32
  let v321 : BitVec 32 := v320
  let v340 : BitVec 32 := Scalar.addi c6144_i32_165 v321
  let v341 : Index := Scalar.indexCast v340
  ![0, v341.toNat]
def k0_off5 (k0_t1 : Fin k0_t1_loop.trips) (c0_i32_168 : BitVec 32) : Fin 2 → Nat :=
  let c0_169 : Index := 0#32
  let c0_i32 : BitVec 32 := 0#32
  let c1_i32 : BitVec 32 := 1#32
  let arg13 : BitVec 32 := Scf.iv c0_i32 c1_i32 k0_t1
  let c512_i32 : BitVec 32 := 512#32
  let v320 : BitVec 32 := Scalar.muli arg13 c512_i32
  let v321 : BitVec 32 := v320
  let v352 : BitVec 32 := Scalar.addi v321 c0_i32_168
  let v353 : Index := Scalar.indexCast v352
  ![0, v353.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x12288 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6144x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x6144 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S8x2048x2048 : Shape := ⟨3, ![8, 2048, 2048]⟩
abbrev S128x128 : Shape := ⟨2, ![128, 128]⟩
abbrev S2048x12288 : Shape := ⟨2, ![2048, 12288]⟩
abbrev S12288 : Shape := ⟨1, ![12288]⟩
abbrev S6144x2048 : Shape := ⟨2, ![6144, 2048]⟩
abbrev S2048 : Shape := ⟨1, ![2048]⟩
abbrev S16384x2048 : Shape := ⟨2, ![16384, 2048]⟩
abbrev S1x12288 : Shape := ⟨2, ![1, 12288]⟩
abbrev S1x2048 : Shape := ⟨2, ![1, 2048]⟩
abbrev S16384x1 : Shape := ⟨2, ![16384, 1]⟩
abbrev S16384x6144 : Shape := ⟨2, ![16384, 6144]⟩
abbrev S262144x128 : Shape := ⟨2, ![262144, 128]⟩
abbrev S16384 : Shape := ⟨1, ![16384]⟩
abbrev S16384x12288 : Shape := ⟨2, ![16384, 12288]⟩
abbrev S786432x128 : Shape := ⟨2, ![786432, 128]⟩

abbrev nBuf : Space → Nat
  | .hbm => 14
  | .vmem => 11
  | .smem => 0
  | _ => 0

abbrev bufTy : (tb : Table) → Fin (tcTables nBuf tb) → BufTy
  | .hbm, ⟨0, _⟩ => ⟨S8x2048x2048, .f32⟩
  | .hbm, ⟨1, _⟩ => ⟨S128x128, .f32⟩
  | .hbm, ⟨2, _⟩ => ⟨S2048x12288, .fp8e4m3⟩
  | .hbm, ⟨3, _⟩ => ⟨S12288, .f32⟩
  | .hbm, ⟨4, _⟩ => ⟨S6144x2048, .fp8e4m3⟩
  | .hbm, ⟨5, _⟩ => ⟨S2048, .f32⟩
  | .hbm, ⟨6, _⟩ => ⟨S16384x2048, .f32⟩
  | .hbm, ⟨7, _⟩ => ⟨S1x12288, .f32⟩
  | .hbm, ⟨8, _⟩ => ⟨S1x2048, .f32⟩
  | .hbm, ⟨9, _⟩ => ⟨S16384x2048, .f32⟩
  | .hbm, ⟨10, _⟩ => ⟨S16384x2048, .fp8e4m3⟩
  | .hbm, ⟨11, _⟩ => ⟨S16384x1, .f32⟩
  | .hbm, ⟨12, _⟩ => ⟨S16384x6144, .fp8e4m3⟩
  | .hbm, ⟨13, _⟩ => ⟨S16384x1, .f32⟩
  | .local _ .vmem, ⟨0, _⟩ => ⟨S16384x2048, .f32⟩
  | .local _ .vmem, ⟨1, _⟩ => ⟨S128x128, .f32⟩
  | .local _ .vmem, ⟨2, _⟩ => ⟨S2048x12288, .fp8e4m3⟩
  | .local _ .vmem, ⟨3, _⟩ => ⟨S1x12288, .f32⟩
  | .local _ .vmem, ⟨4, _⟩ => ⟨S6144x2048, .fp8e4m3⟩
  | .local _ .vmem, ⟨5, _⟩ => ⟨S1x2048, .f32⟩
  | .local _ .vmem, ⟨6, _⟩ => ⟨S16384x2048, .f32⟩
  | .local _ .vmem, ⟨7, _⟩ => ⟨S16384x2048, .fp8e4m3⟩
  | .local _ .vmem, ⟨8, _⟩ => ⟨S16384x1, .f32⟩
  | .local _ .vmem, ⟨9, _⟩ => ⟨S16384x6144, .fp8e4m3⟩
  | .local _ .vmem, ⟨10, _⟩ => ⟨S16384x1, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S16384x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x12288 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16384x2048 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16384x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16384x6144 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16384x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Scale.lean ====
/-
  The power-of-two scale of a row, computed in two ways. The reference takes a logarithm of the row's largest magnitude over
  448, rounds it down, adds one, and keeps the exponent between -126 and 128. The kernel climbs a ladder of seven rungs — it
  multiplies by 2^64, 2^32, …, 2 wherever the product still lies under the value. Both give the same power of two, and the
  same inverse, for every extended real that is not negative.
-/
module

public import Idealize.ShloMosaic.Lib.Pointwise

@[expose] public section

noncomputable section

namespace Cert.Mlp

open Idealize.ShloMosaic

/-- A single-precision pattern with a zero fraction and a normal exponent field is that power of two. -/
theorem ofBits_two_pow {b : BitVec 32} (n : ℤ) (hneg : (b.extractLsb' 31 1 == 1#1) = false)
    (hfr : (b.extractLsb' 0 23).toNat = 0) (hex : ((b.extractLsb' 23 8).toNat : ℤ) = n + 127)
    (h0 : -127 < n) (h1 : n < 128) : Ideal.ofBits .f32 b = (((2 : ℝ) ^ n : ℝ) : EReal) := by
  have e1 : (b.extractLsb' 23 8).toNat ≠ 2 ^ 8 - 1 := by omega
  have e2 : (b.extractLsb' 23 8).toNat ≠ 0 := by omega
  simp only [Ideal.ofBits, Ideal.ieee]
  rw [if_neg e1, if_neg e2, hneg, hfr, hex]
  congr 1
  have h2 : (2 : ℝ) ≠ 0 := two_ne_zero
  rw [show (n + 127 - (2 ^ (8 - 1) - 1) - ((23 : ℕ) : ℤ) : ℤ) = n - 23 by push_cast; ring, zpow_sub₀ h2]
  norm_num
  field_simp

/-- The largest power of two not over `z` lies at or below `e - 1 + R + 1`, and `e - 1` still lies under it — unless the ends
    -126 and 128 of the range decide. -/
def Inv (z : EReal) (e : ℤ) (R : ℕ) : Prop :=
  ((((2 : ℝ) ^ (e - 1) : ℝ) : EReal) ≤ z ∨ e = -126) ∧
    (¬ (((2 : ℝ) ^ (e + R) : ℝ) : EReal) ≤ z ∨ e + R = 128) ∧ -126 ≤ e ∧ e + R ≤ 128

/-- The state of the ladder for `z` with `R` exponents left to search: a power of two and its inverse. -/
def Lad (z s i : EReal) (R : ℕ) : Prop :=
  ∃ e : ℤ, s = (((2 : ℝ) ^ e : ℝ) : EReal) ∧ i = (((2 : ℝ) ^ (-e) : ℝ) : EReal) ∧ Inv z e R

theorem coe_zpow_mul (m n : ℤ) : ((((2 : ℝ) ^ m : ℝ) : EReal) * (((2 : ℝ) ^ n : ℝ) : EReal)) = (((2 : ℝ) ^ (m + n) : ℝ) : EReal) := by
  rw [← EReal.coe_mul, zpow_add₀ two_ne_zero]

/-- The foot of the ladder: at one the search goes up from 2, below one up from 2^-126. -/
theorem lad_start {z b2 blo bhalf bhi : EReal} (h2 : b2 = (((2 : ℝ) ^ (1 : ℤ) : ℝ) : EReal)) (hlo : blo = (((2 : ℝ) ^ (-126 : ℤ) : ℝ) : EReal))
    (hhalf : bhalf = (((2 : ℝ) ^ (-1 : ℤ) : ℝ) : EReal)) (hhi : bhi = (((2 : ℝ) ^ (126 : ℤ) : ℝ) : EReal)) {one : EReal} (h1 : one = 1) :
    Lad z (Scalar.select (Ideal.cmp .oge z one) b2 blo) (Scalar.select (Ideal.cmp .oge z one) bhalf bhi) 127 := by
  subst h1
  by_cases h : (1 : EReal) ≤ z
  · have hs : Ideal.cmp .oge z 1 = 1 := (Ideal.cmp_oge_eq_one _ _).2 h
    refine ⟨1, by rw [Scalar.select, if_pos hs, h2], by rw [Scalar.select, if_pos hs, hhalf], .inl ?_, .inr (by norm_num), by norm_num, by norm_num⟩
    simpa using h
  · have hs : ¬ Ideal.cmp .oge z 1 = 1 := fun h' => h ((Ideal.cmp_oge_eq_one _ _).1 h')
    refine ⟨-126, by rw [Scalar.select, if_neg hs, hlo], by rw [Scalar.select, if_neg hs, hhi]; norm_num, .inr rfl, .inl fun h' => h (le_trans ?_ h'), by norm_num, by norm_num⟩
    rw [show (1 : EReal) = ((1 : ℝ) : EReal) by norm_cast, EReal.coe_le_coe_iff]
    norm_num

/-- One rung of the ladder. -/
theorem lad_step {z s i m k ki : EReal} (R : ℕ) (h : Lad z s i (2 * R + 1)) (hm : m = (((2 : ℝ) ^ (R : ℤ) : ℝ) : EReal))
    (hk : k = (((2 : ℝ) ^ ((R : ℤ) + 1) : ℝ) : EReal)) (hki : ki = (((2 : ℝ) ^ (-((R : ℤ) + 1)) : ℝ) : EReal)) :
    Lad z (Scalar.select (Ideal.cmp .oge z (s * m)) (s * k) s) (Scalar.select (Ideal.cmp .oge z (s * m)) (i * ki) i) R := by
  obtain ⟨e, rfl, rfl, hlo, hhi, h126, h128⟩ := h
  subst hm hk hki
  simp only [coe_zpow_mul]
  push_cast at hhi h128
  by_cases h : (((2 : ℝ) ^ (e + R) : ℝ) : EReal) ≤ z
  · have hs := (Ideal.cmp_oge_eq_one _ _).2 h
    refine ⟨e + (R + 1), by rw [Scalar.select, if_pos hs], by rw [Scalar.select, if_pos hs]; congr 2; ring, .inl ?_, ?_, by omega, by omega⟩
    · rwa [show e + ((R : ℤ) + 1) - 1 = e + R by ring]
    · rwa [show e + ((R : ℤ) + 1) + R = e + (2 * R + 1) by ring]
  · have hs : ¬ _ := fun h' => h ((Ideal.cmp_oge_eq_one _ _).1 h')
    exact ⟨e, by rw [Scalar.select, if_neg hs], by rw [Scalar.select, if_neg hs], hlo, .inl h, h126, by omega⟩

/-- The reference's exponent of a value over zero: the logarithm to base two, rounded down, plus one, between the ends. -/
def expo (z : EReal) : EReal :=
  min (((128 : ℝ)) : EReal) (max (((-126 : ℝ)) : EReal)
    (Ideal.liftRound Int.floor (Ideal.div (Ideal.log z) (Ideal.log (((2 : ℝ)) : EReal))) + 1))

theorem exp2_int (e : ℤ) : Ideal.exp2 (((e : ℝ)) : EReal) = (((2 : ℝ) ^ e : ℝ) : EReal) := by
  rw [Ideal.exp2_coe]; congr 1; exact Real.rpow_intCast 2 e

theorem zpow_le_iff {r : ℝ} (hr : 0 < r) (m : ℤ) : (2 : ℝ) ^ m ≤ r ↔ m ≤ ⌊Real.log r * (Real.log 2)⁻¹⌋ := by
  have h2 : 0 < Real.log 2 := Real.log_pos (by norm_num)
  rw [Int.le_floor, ← div_eq_mul_inv, le_div_iff₀ h2, ← Real.rpow_intCast, ← Real.log_le_log_iff (Real.rpow_pos_of_pos two_pos _) hr,
    Real.log_rpow two_pos]

/-- At the top of the ladder stands the reference's exponent. -/
theorem expo_of_inv {z : EReal} (hz : 0 < z) {e : ℤ} (h : Inv z e 0) : expo z = ((e : ℝ) : EReal) := by
  have h2 : 0 < Real.log 2 := Real.log_pos (by norm_num)
  have hlog2 : Ideal.log (((2 : ℝ)) : EReal) = ((Real.log 2 : ℝ) : EReal) := by
    rw [Ideal.log_coe, if_neg (by norm_num)]
  obtain ⟨hlo, hhi, h126, h128⟩ := h
  simp only [Nat.cast_zero, add_zero] at hhi h128
  have hne : ((Real.log 2 : ℝ) : EReal) ≠ 0 := by
    rw [show (0 : EReal) = ((0 : ℝ) : EReal) by norm_cast]; exact fun h => h2.ne' (EReal.coe_injective h)
  unfold expo
  rw [hlog2]
  induction z with
  | bot => exact absurd hz (by simp)
  | top =>
    have he : e = 128 := by rcases hhi with h | h; exacts [absurd le_top h, h]
    subst he
    have : Ideal.div (Ideal.log ⊤) ((Real.log 2 : ℝ) : EReal) = ⊤ := by
      rw [Ideal.log_top, Ideal.div, if_neg hne, ← EReal.coe_inv, EReal.top_mul_coe_of_pos (inv_pos.2 h2)]
    rw [this, Ideal.liftRound_top, show (⊤ : EReal) + 1 = ⊤ by rw [show (1 : EReal) = ((1 : ℝ) : EReal) by norm_cast]; exact EReal.top_add_coe 1]
    simp
  | coe r =>
    have hr : 0 < r := by exact_mod_cast hz
    rw [Ideal.log_coe, if_neg (not_le.2 hr), Ideal.div, if_neg hne, ← EReal.coe_inv, ← EReal.coe_mul, Ideal.liftRound_coe]
    simp only [EReal.coe_le_coe_iff, zpow_le_iff hr] at hlo hhi
    generalize ⌊Real.log r * (Real.log 2)⁻¹⌋ = n at hlo hhi ⊢
    rw [show (((n : ℝ) : EReal) + 1) = (((n + 1 : ℤ) : ℝ) : EReal) by push_cast; rfl,
      show (((-126 : ℝ)) : EReal) = (((-126 : ℤ) : ℝ) : EReal) by norm_num, show (((128 : ℝ)) : EReal) = (((128 : ℤ) : ℝ) : EReal) by norm_num,
      ← EReal.coe_strictMono.monotone.map_max, ← EReal.coe_strictMono.monotone.map_min, ← Int.cast_max, ← Int.cast_min]
    congr 2
    omega

/-- The row's exponent as the reference takes it: zero for a row of zeros. -/
def rowExp (a q : EReal) : EReal := if a = 0 then 0 else expo (a * q)

/-- The ladder's scale and its inverse are two to the row's exponent and to its negative. -/
theorem scale_of_lad {a q s i : EReal} (ha : 0 ≤ a) (hq : 0 < q) (h : Lad (a * q) s i 0) :
    (if a = 0 then 1 else s) = Ideal.exp2 (rowExp a q) ∧ (if a = 0 then 1 else i) = Ideal.exp2 (0 - rowExp a q) := by
  unfold rowExp
  by_cases h0 : a = 0
  · have h1 : Ideal.exp2 0 = 1 := by simpa using exp2_int 0
    simp only [h0, if_true, sub_zero, h1, and_self]
  · simp only [h0, if_false]
    obtain ⟨e, rfl, rfl, hi⟩ := h
    have hz : 0 < a * q := EReal.mul_pos (lt_of_le_of_ne ha (Ne.symm h0)) hq
    rw [expo_of_inv hz hi, exp2_int, show (0 : EReal) - ((e : ℝ) : EReal) = (((-e : ℤ) : ℝ) : EReal) by rw [zero_sub, ← EReal.coe_neg, Int.cast_neg], exp2_int]
    exact ⟨rfl, rfl⟩

end Cert.Mlp
-- ==== Proof.Spec.lean ====
/-
  The gated perceptron of the problem, one row of tokens at a time and on extended reals: rotate the row block by block, take
  its power-of-two scale and its codes, multiply by the gate and up weights, gate, rotate and quantise again, multiply by the
  down weights. The programs differ in the width of the rotation's blocks, and in the order in which they take a row's maximum;
  the lemmas here say that neither matters.
-/
module

public import proofs.«01_k».proof.Proof.Scale

@[expose] public section

noncomputable section

namespace Cert.Mlp

open Idealize.ShloMosaic
open scoped BigOperators

/-- The magnitude of an extended real. -/
def mag (x : EReal) : EReal := max x (-x)

theorem mag_nonneg (x : EReal) : 0 ≤ mag x := by
  rcases le_total 0 x with h | h
  · exact le_max_of_le_left h
  · exact le_max_of_le_right (by simpa using EReal.neg_le_neg_iff.2 h)

variable {n : ℕ}

/-- The largest magnitude in a row. -/
def absMax (v : Fin n → EReal) : EReal := Finset.univ.fold max ⊥ fun c => mag (v c)

/-- The largest magnitude among the entries before `m`, and zero. -/
def runMax (v : Fin n → EReal) (m : ℕ) : EReal := max 0 ((Finset.univ.filter fun c : Fin n => c.val < m).sup fun c => mag (v c))

theorem runMax_zero (v : Fin n → EReal) : runMax v 0 = 0 := by simp [runMax]

/-- A running maximum goes on with the largest magnitude of the next block. -/
theorem runMax_add (v : Fin n → EReal) (m p : ℕ) (h : m + p ≤ n) (w : Fin p → EReal) (hw : ∀ j : Fin p, w j = v ⟨m + j, by omega⟩) :
    max (runMax v m) (Finset.univ.fold max ⊥ fun j : Fin p => mag (w j)) = runMax v (m + p) := by
  refine eq_of_forall_ge_iff fun c => ?_
  simp only [runMax, max_le_iff, Finset.sup_le_iff, Finset.fold_max_le, bot_le, true_and, Finset.mem_univ, forall_const, Finset.mem_filter, hw]
  constructor
  · rintro ⟨⟨h0, h1⟩, h2⟩
    refine ⟨h0, fun i hi => ?_⟩
    by_cases him : i.val < m
    · exact h1 i him
    · have := h2 ⟨i.val - m, by omega⟩
      rwa [show (⟨m + (i.val - m), by omega⟩ : Fin n) = i from Fin.ext (by simp only; omega)] at this
  · rintro ⟨h0, h1⟩
    exact ⟨⟨h0, fun i hi => h1 i (by omega)⟩, fun j => h1 _ (by simp only; omega)⟩

/-- The running maximum over the whole row is the row's largest magnitude. -/
theorem runMax_full (v : Fin n → EReal) (hn : 0 < n) : runMax v n = absMax v := by
  refine eq_of_forall_ge_iff fun c => ?_
  simp only [runMax, absMax, max_le_iff, Finset.sup_le_iff, Finset.fold_max_le, bot_le, true_and, Finset.mem_univ, forall_const, Finset.mem_filter,
    Fin.is_lt]
  exact ⟨fun h => h.2, fun h => ⟨(mag_nonneg _).trans (h ⟨0, hn⟩), h⟩⟩

theorem absMax_nonneg (v : Fin n → EReal) (hn : 0 < n) : 0 ≤ absMax v := runMax_full v hn ▸ le_max_left _ _

/-- One over 448, in single precision. -/
def q448 : EReal := Ideal.ofBits .f32 0x3B124925#32

theorem q448_pos : 0 < q448 := by
  rw [q448, show (0 : EReal) = ((0 : ℝ) : EReal) by norm_cast]
  simp [Ideal.ofBits, Ideal.ieee, -EReal.coe_mul]

/-- The constants of the exponent. -/
theorem bits_128 : Ideal.ofBits .f32 0x43000000#32 = ((128 : ℝ) : EReal) := by
  rw [ofBits_two_pow 7 rfl rfl rfl (by norm_num) (by norm_num)]; norm_num

theorem bits_two : Ideal.ofBits .f32 0x40000000#32 = ((2 : ℝ) : EReal) := by
  rw [ofBits_two_pow 1 rfl rfl rfl (by norm_num) (by norm_num)]; norm_num

theorem bits_neg_126 : Ideal.ofBits .f32 0xC2FC0000#32 = ((-126 : ℝ) : EReal) := by
  simp [Ideal.ofBits, Ideal.ieee, -EReal.coe_mul]; norm_num

theorem bits_one : Ideal.ofBits .f32 0x3F800000#32 = 1 := by
  rw [ofBits_two_pow 0 rfl rfl rfl (by norm_num) (by norm_num)]; norm_num

theorem bits_bot : Ideal.ofBits .f32 0xFF800000#32 = ⊥ := by simp [Ideal.ofBits, Ideal.ieee]

theorem bits_zero : Ideal.ofBits .f32 0x00000000#32 = 0 := Ideal.ofBits_zero_f32

/-- A choice by equality with zero. -/
theorem select_oeq_zero (a x y : EReal) : Scalar.select (Ideal.cmp .oeq a 0) x y = if a = 0 then x else y := by
  unfold Scalar.select
  by_cases h : a = 0
  · rw [if_pos ((Ideal.cmp_oeq_eq_one _ _).2 h), if_pos h]
  · rw [if_neg fun h' => h ((Ideal.cmp_oeq_eq_one _ _).1 h'), if_neg h]

/-- The reference's exponent, operation by operation. -/
theorem rowExp_ops (a : EReal) :
    Scalar.select (Ideal.cmp .oeq a (Ideal.ofBits .f32 0x00000000#32)) (Ideal.ofBits .f32 0x00000000#32)
      (min (Ideal.ofBits .f32 0x43000000#32) (max (Ideal.ofBits .f32 0xC2FC0000#32)
        (Ideal.liftRound Int.floor (Ideal.div (Ideal.log (a * q448)) (Ideal.log (Ideal.ofBits .f32 0x40000000#32)))
          + Ideal.ofBits .f32 0x3F800000#32))) = rowExp a q448 := by
  rw [bits_zero, bits_128, bits_neg_126, bits_two, bits_one, select_oeq_zero, rowExp, expo]

/-- A value cut off at plus and minus 448. -/
def clip (v : EReal) : EReal := min (Ideal.ofBits .f32 0x43E00000#32) (max (Ideal.ofBits .f32 0xC3E00000#32) v)

/-- A vector of powers of two, entry by entry. -/
theorem exp2_vec {s : Shape} (e : FVec Ideal s .f32) (i : s.Idx) : exp2 e i = Ideal.exp2 (e i) := rfl

/-- A vector of inverse powers of two, entry by entry. -/
theorem exp2_neg_vec {s : Shape} (e : FVec Ideal s .f32) (i : s.Idx) :
    exp2 (subf (broadcast s (FloatOps.ofBits FTy.f32 0x00000000#32)) e) i = Ideal.exp2 (0 - e i) := by
  rw [exp2_vec, ← bits_zero]
  rfl

/-- A vector of products cut off and stored as codes, entry by entry. -/
theorem clip_vec {s : Shape} (v b : FVec Ideal s .f32) (h : FTy.bits .fp8e4m3 < FTy.bits .f32) (i : s.Idx) :
    truncf .fp8e4m3 (minimumf (broadcast s (FloatOps.ofBits FTy.f32 0x43E00000#32))
      (maximumf (broadcast s (FloatOps.ofBits FTy.f32 0xC3E00000#32)) (mulf v b))) h i = clip (v i * b i) := rfl

/-- The scale of a row. -/
def scale (v : Fin n → EReal) : EReal := Ideal.exp2 (rowExp (absMax v) q448)

/-- What a row is multiplied by before it is cut off: one over its scale. -/
def invScale (v : Fin n → EReal) : EReal := Ideal.exp2 (0 - rowExp (absMax v) q448)

/-- The codes of a row. -/
def codes (v : Fin n → EReal) (c : Fin n) : EReal := clip (v c * invScale v)

/-- A row rotated block by block: each block of `p` entries times the `p × p` matrix `M`. -/
def rot (p : ℕ) (hp : 0 < p) (hd : p ∣ n) (M : Fin p → Fin p → EReal) (v : Fin n → EReal) (c : Fin n) : EReal :=
  ∑ j : Fin p, v ⟨p * (c.val / p) + j, by
    have h1 := c.is_lt; have h2 := j.is_lt
    obtain ⟨k, rfl⟩ := hd
    have h3 : c.val / p < k := Nat.div_lt_of_lt_mul h1
    calc p * (c.val / p) + j < p * (c.val / p) + p := by omega
      _ = p * (c.val / p + 1) := by ring
      _ ≤ p * k := Nat.mul_le_mul_left p h3⟩ * M j ⟨c.val % p, Nat.mod_lt _ hp⟩

/-- Two equal blocks on the diagonal and zeros off it: rotating by the double block is rotating by the single one. -/
theorem rot_double (p : ℕ) (hp : 0 < p) (hd : p ∣ n) (hp2 : 0 < p + p) (hd2 : p + p ∣ n) (M : Fin p → Fin p → EReal) (M2 : Fin (p + p) → Fin (p + p) → EReal)
    (h : ∀ a b : Fin (p + p), M2 a b = if a.val / p = b.val / p then M ⟨a.val % p, Nat.mod_lt _ hp⟩ ⟨b.val % p, Nat.mod_lt _ hp⟩ else 0)
    (v : Fin n → EReal) : rot (p + p) hp2 hd2 M2 v = rot p hp hd M v := by
  funext c
  have hc1 : c.val % (p + p) / p = c.val / p % 2 := by rw [← two_mul, mul_comm, Nat.mod_mul_right_div_self]
  have hc2 : c.val % (p + p) % p = c.val % p := Nat.mod_mod_of_dvd _ ⟨2, by ring⟩
  have hc3 : c.val / (p + p) = c.val / p / 2 := by rw [← two_mul, mul_comm, Nat.div_div_eq_div_mul]
  have hq := Nat.div_add_mod (c.val / p) 2
  unfold rot
  rw [Fin.sum_univ_add]
  simp only [h, Fin.val_castAdd, Fin.val_natAdd, hc1, hc2]
  have hlt : ∀ j : Fin p, j.val / p = 0 := fun j => Nat.div_eq_of_lt j.is_lt
  have hlt' : ∀ j : Fin p, (p + j.val) / p = 1 := fun j => by rw [Nat.add_div_left _ hp, hlt j]
  have hm : ∀ j : Fin p, j.val % p = j.val := fun j => Nat.mod_eq_of_lt j.is_lt
  have hm' : ∀ j : Fin p, (p + j.val) % p = j.val := fun j => by rw [Nat.add_mod_left, hm j]
  simp only [hlt, hlt', hm, hm']
  rcases Nat.mod_two_eq_zero_or_one (c.val / p) with h0 | h0
  · simp only [h0, if_true, one_ne_zero, if_false, mul_zero, Finset.sum_const_zero, add_zero]
    refine Finset.sum_congr rfl fun j _ => ?_
    congr 2
    refine Fin.ext ?_
    show (p + p) * (c.val / (p + p)) + j = p * (c.val / p) + j
    rw [hc3, ← two_mul, mul_comm 2 p, mul_assoc, show 2 * (c.val / p / 2) = c.val / p by omega]
  · simp only [h0, if_true, zero_ne_one, if_false, mul_zero, Finset.sum_const_zero, zero_add]
    refine Finset.sum_congr rfl fun j _ => ?_
    congr 2
    refine Fin.ext ?_
    show (p + p) * (c.val / (p + p)) + (p + j) = p * (c.val / p) + j
    have : p * (c.val / p) = p * (2 * (c.val / p / 2)) + p := by
      conv_lhs => rw [← hq, h0]
      ring
    rw [this, hc3]; ring

/-- The hidden row: gate and up products of the codes, scaled, and the gate's sigmoid-weighted value times the up value. -/
def hid (W : Fin 2048 → Fin 12288 → EReal) (WS : Fin 12288 → EReal) (xc : Fin 2048 → EReal) (s : EReal) (f : Fin 6144) : EReal :=
  ((∑ k, xc k * W k ⟨f, by omega⟩) * s * WS ⟨f, by omega⟩) *
      Ideal.logistic ((∑ k, xc k * W k ⟨f, by omega⟩) * s * WS ⟨f, by omega⟩) *
    ((∑ k, xc k * W k ⟨6144 + f, by omega⟩) * s * WS ⟨6144 + f, by omega⟩)

/-- The output row: the product of the hidden codes with the down weights, scaled. -/
def down (WD : Fin 6144 → Fin 2048 → EReal) (WDS : Fin 2048 → EReal) (hc : Fin 6144 → EReal) (s : EReal) (c : Fin 2048) : EReal :=
  (∑ k, hc k * WD k c) * s * WDS c

/-- The hidden row of a rotated input row. -/
def hidOf (W : Fin 2048 → Fin 12288 → EReal) (WS : Fin 12288 → EReal) (xr : Fin 2048 → EReal) : Fin 6144 → EReal :=
  hid W WS (codes xr) (scale xr)

/-- The output row of a rotated hidden row. -/
def downOf (WD : Fin 6144 → Fin 2048 → EReal) (WDS : Fin 2048 → EReal) (hr : Fin 6144 → EReal) : Fin 2048 → EReal :=
  down WD WDS (codes hr) (scale hr)

/-- Row `r` of the input, rotated by blocks of 128. -/
def xRot (H : Fin 128 → Fin 128 → EReal) (X : Fin 16384 → Fin 2048 → EReal) (r : Fin 16384) : Fin 2048 → EReal :=
  rot 128 (by norm_num) (by norm_num) H (X r)

/-- Row `r` of the hidden layer, rotated by blocks of 128. -/
def hRot (H : Fin 128 → Fin 128 → EReal) (W : Fin 2048 → Fin 12288 → EReal) (WS : Fin 12288 → EReal) (X : Fin 16384 → Fin 2048 → EReal)
    (r : Fin 16384) : Fin 6144 → EReal :=
  rot 128 (by norm_num) (by norm_num) H (hidOf W WS (xRot H X r))

end Cert.Mlp
-- ==== Proof.KerPay.lean ====
/-
  What the kernel's body computes, entry by entry: blocks of 256 rotated, running maxima, the ladder of powers of two that
  finds a row's scale, codes, gated products, output columns.
-/
module

public import proofs.«01_k».proof.Proof.Spec
public import proofs.«01_k».proof.Proof.Gen.KernelIdeal.Skeleton

@[expose] public section

noncomputable section

namespace Cert.KernelIdeal.Value

open Cert.KernelIdeal Cert.KernelIdeal.Gen Cert.Mlp Idealize.ShloMosaic
open scoped BigOperators

/-! ## Vectors, entry by entry -/

/-- A column of larger values, entry by entry. -/
theorem max_vec {s : Shape} (a b : FVec Ideal s .f32) (i : s.Idx) : maximumf a b i = max (a i) (b i) := rfl

/-- The largest magnitude in each row of a block of 256 columns. -/
theorem rowMax_apply (v : FVec Ideal S256x256 .f32) (r : Fin 256) :
    shapeCast S256x1 (multiReduction .maximumf [1] S256 (absf v) 0xFF800000#32 reduces_S256x256_S256 (.inl rfl) rfl) shapeCasts_S256_S256x1 (ix2 r 0)
      = absMax fun c => v (ix2 r c) := by
  pointwise
  rw [bits_bot]
  rfl

/-- A block of rows times a square matrix, at row `r` and column `c`. -/
def mulRow (M v : S256x256.Idx → EReal) (r c : Fin 256) : EReal := ∑ j : Fin 256, v (ix2 r j) * M (ix2 j c)

theorem pay9_apply (M : Vec Ideal S256x256 .bf16) (v : Vec Ideal S256x256 .f32) (r c : Fin 256) : k0_pay9 M v (ix2 r c) = mulRow M v r c := by
  pointwise [k0_pay9, k0_pay8]; rfl
theorem pay11_apply (M : Vec Ideal S256x256 .bf16) (v : Vec Ideal S256x256 .f32) (r c : Fin 256) : k0_pay11 M v (ix2 r c) = mulRow M v r c := by
  pointwise [k0_pay11, k0_pay8]; rfl
theorem pay14_apply (M : Vec Ideal S256x256 .bf16) (v : Vec Ideal S256x256 .f32) (r c : Fin 256) : k0_pay14 M v (ix2 r c) = mulRow M v r c := by
  pointwise [k0_pay14, k0_pay8]; rfl
theorem pay17_apply (M : FVec Ideal S256x256 .bf16) (v : Vec Ideal S256x256 .f32) (r c : Fin 256) : k0_pay17 M v (ix2 r c) = mulRow M v r c := by
  pointwise [k0_pay17]; rfl
theorem pay19_apply (M : FVec Ideal S256x256 .bf16) (v : Vec Ideal S256x256 .f32) (r c : Fin 256) : k0_pay19 M v (ix2 r c) = mulRow M v r c := by
  pointwise [k0_pay19]; rfl
theorem pay21_apply (M : FVec Ideal S256x256 .bf16) (v : Vec Ideal S256x256 .f32) (r c : Fin 256) : k0_pay21 M v (ix2 r c) = mulRow M v r c := by
  pointwise [k0_pay21]; rfl
theorem pay27_apply (M : FVec Ideal S256x256 .bf16) (v : Vec Ideal S256x256 .f32) (r c : Fin 256) : k0_pay27 M v (ix2 r c) = mulRow M v r c := by
  pointwise [k0_pay27]; rfl
theorem pay25_apply (M v : FVec Ideal S256x256 .bf16) (r c : Fin 256) : k0_pay25 M v (ix2 r c) = mulRow M v r c := by
  pointwise [k0_pay25]; rfl
theorem pay51_apply (M v : FVec Ideal S256x256 .bf16) (r c : Fin 256) : k0_pay51 M v (ix2 r c) = mulRow M v r c := by
  pointwise [k0_pay51]; rfl
theorem pay24_apply (v : Vec Ideal S256x256 .f32) (r c : Fin 256) : k0_pay24 v (ix2 r c) = v (ix2 r c) := by
  pointwise [k0_pay24]
theorem pay8_apply (M : Vec Ideal S256x256 .bf16) (r c : Fin 256) : k0_pay8 M (ix2 r c) = M (ix2 r c) := by
  pointwise [k0_pay8]

/-! ## The running maxima -/

theorem pay13_apply (M : Vec Ideal S256x256 .bf16) (v w : Vec Ideal S256x256 .f32) (r : Fin 256) :
    k0_pay13 M v w (ix2 r 0) = max (max 0 (absMax (mulRow M v r))) (absMax (mulRow M w r)) := by
  have h1 := rowMax_apply (k0_pay9 M v) r
  have h2 := rowMax_apply (k0_pay11 M w) r
  simp only [pay9_apply, pay11_apply] at h1 h2
  rw [← h1, ← h2, ← bits_zero]
  rfl

theorem pay16_apply (M : Vec Ideal S256x256 .bf16) (v : Vec Ideal S256x256 .f32) (r : Fin 256) :
    k0_pay16 M v (ix2 r 0) = absMax (mulRow M v r) := by
  have h1 := rowMax_apply (k0_pay14 M v) r
  simp only [pay14_apply] at h1
  rw [← h1]
  rfl

theorem pay23_apply (M : FVec Ideal S256x256 .bf16) (a b : FVec Ideal S256x1 .f32) (u v w : Vec Ideal S256x256 .f32) (r : Fin 256) :
    k0_pay23 M a b u v w (ix2 r 0)
      = max (max (max (max (a (ix2 r 0)) (b (ix2 r 0))) (absMax (mulRow M u r))) (absMax (mulRow M v r))) (absMax (mulRow M w r)) := by
  have h1 := rowMax_apply (k0_pay17 M u) r
  have h2 := rowMax_apply (k0_pay19 M v) r
  have h3 := rowMax_apply (k0_pay21 M w) r
  simp only [pay17_apply, pay19_apply, pay21_apply] at h1 h2 h3
  rw [← h1, ← h2, ← h3]
  rfl

theorem pay29_apply (M : FVec Ideal S256x256 .bf16) (a : FVec Ideal S256x1 .f32) (u : FVec Ideal S256x256 .bf16) (v : Vec Ideal S256x256 .f32) (r : Fin 256) :
    k0_pay29 M a u v (ix2 r 0) = max (max (a (ix2 r 0)) (absMax (mulRow M u r))) (absMax (mulRow M v r)) := by
  have h1 := rowMax_apply (k0_pay25 M u) r
  have h2 := rowMax_apply (k0_pay27 M v) r
  simp only [pay25_apply, pay27_apply] at h1 h2
  rw [← h1, ← h2]
  rfl

theorem pay53_apply (M : FVec Ideal S256x256 .bf16) (a : FVec Ideal S256x1 .f32) (u : FVec Ideal S256x256 .bf16) (r : Fin 256) :
    k0_pay53 M a u (ix2 r 0) = max (a (ix2 r 0)) (absMax (mulRow M u r)) := by
  have h1 := rowMax_apply (k0_pay51 M u) r
  simp only [pay51_apply] at h1
  rw [← h1]
  rfl

theorem pay50_apply (r : Fin 256) : k0_pay50 (F := Ideal) (ix2 r 0) = 0 := bits_zero

/-! ## The ladder -/

/-- The foot of the ladder. -/
theorem foot (z : EReal) :
    Lad z (Scalar.select (Ideal.cmp .oge z (Ideal.ofBits .f32 0x3F800000#32)) (Ideal.ofBits .f32 0x40000000#32) (Ideal.ofBits .f32 0x00800000#32))
      (Scalar.select (Ideal.cmp .oge z (Ideal.ofBits .f32 0x3F800000#32)) (Ideal.ofBits .f32 0x3F000000#32) (Ideal.ofBits .f32 0x7E800000#32)) 127 :=
  lad_start (ofBits_two_pow 1 rfl rfl rfl (by norm_num) (by norm_num)) (ofBits_two_pow (-126) rfl rfl rfl (by norm_num) (by norm_num))
    (ofBits_two_pow (-1) rfl rfl rfl (by norm_num) (by norm_num)) (ofBits_two_pow 126 rfl rfl rfl (by norm_num) (by norm_num)) bits_one

/-- A rung of the ladder whose constants are the bit patterns `m`, `k` and `k'` of 2^R, 2^(R+1) and its inverse. -/
theorem rung (R : ℕ) (m k k' : BitVec 32) (hm : Ideal.ofBits .f32 m = (((2 : ℝ) ^ (R : ℤ) : ℝ) : EReal))
    (hk : Ideal.ofBits .f32 k = (((2 : ℝ) ^ ((R : ℤ) + 1) : ℝ) : EReal)) (hk' : Ideal.ofBits .f32 k' = (((2 : ℝ) ^ (-((R : ℤ) + 1)) : ℝ) : EReal))
    {z s i : EReal} (h : Lad z s i (2 * R + 1)) :
    Lad z (Scalar.select (Ideal.cmp .oge z (s * Ideal.ofBits .f32 m)) (s * Ideal.ofBits .f32 k) s)
      (Scalar.select (Ideal.cmp .oge z (s * Ideal.ofBits .f32 m)) (i * Ideal.ofBits .f32 k') i) R :=
  lad_step R h hm hk hk'

theorem rung63 {z s i : EReal} (h : Lad z s i 127) :
    Lad z (Scalar.select (Ideal.cmp .oge z (s * Ideal.ofBits .f32 0x5F000000#32)) (s * Ideal.ofBits .f32 0x5F800000#32) s)
      (Scalar.select (Ideal.cmp .oge z (s * Ideal.ofBits .f32 0x5F000000#32)) (i * Ideal.ofBits .f32 0x1F800000#32) i) 63 :=
  rung 63 _ _ _ (ofBits_two_pow 63 rfl rfl rfl (by norm_num) (by norm_num)) (ofBits_two_pow 64 rfl rfl rfl (by norm_num) (by norm_num))
    (ofBits_two_pow (-64) rfl rfl rfl (by norm_num) (by norm_num)) h

theorem rung31 {z s i : EReal} (h : Lad z s i 63) :
    Lad z (Scalar.select (Ideal.cmp .oge z (s * Ideal.ofBits .f32 0x4F000000#32)) (s * Ideal.ofBits .f32 0x4F800000#32) s)
      (Scalar.select (Ideal.cmp .oge z (s * Ideal.ofBits .f32 0x4F000000#32)) (i * Ideal.ofBits .f32 0x2F800000#32) i) 31 :=
  rung 31 _ _ _ (ofBits_two_pow 31 rfl rfl rfl (by norm_num) (by norm_num)) (ofBits_two_pow 32 rfl rfl rfl (by norm_num) (by norm_num))
    (ofBits_two_pow (-32) rfl rfl rfl (by norm_num) (by norm_num)) h

theorem rung15 {z s i : EReal} (h : Lad z s i 31) :
    Lad z (Scalar.select (Ideal.cmp .oge z (s * Ideal.ofBits .f32 0x47000000#32)) (s * Ideal.ofBits .f32 0x47800000#32) s)
      (Scalar.select (Ideal.cmp .oge z (s * Ideal.ofBits .f32 0x47000000#32)) (i * Ideal.ofBits .f32 0x37800000#32) i) 15 :=
  rung 15 _ _ _ (ofBits_two_pow 15 rfl rfl rfl (by norm_num) (by norm_num)) (ofBits_two_pow 16 rfl rfl rfl (by norm_num) (by norm_num))
    (ofBits_two_pow (-16) rfl rfl rfl (by norm_num) (by norm_num)) h

theorem rung7 {z s i : EReal} (h : Lad z s i 15) :
    Lad z (Scalar.select (Ideal.cmp .oge z (s * Ideal.ofBits .f32 0x43000000#32)) (s * Ideal.ofBits .f32 0x43800000#32) s)
      (Scalar.select (Ideal.cmp .oge z (s * Ideal.ofBits .f32 0x43000000#32)) (i * Ideal.ofBits .f32 0x3B800000#32) i) 7 :=
  rung 7 _ _ _ (ofBits_two_pow 7 rfl rfl rfl (by norm_num) (by norm_num)) (ofBits_two_pow 8 rfl rfl rfl (by norm_num) (by norm_num))
    (ofBits_two_pow (-8) rfl rfl rfl (by norm_num) (by norm_num)) h

theorem rung3 {z s i : EReal} (h : Lad z s i 7) :
    Lad z (Scalar.select (Ideal.cmp .oge z (s * Ideal.ofBits .f32 0x41000000#32)) (s * Ideal.ofBits .f32 0x41800000#32) s)
      (Scalar.select (Ideal.cmp .oge z (s * Ideal.ofBits .f32 0x41000000#32)) (i * Ideal.ofBits .f32 0x3D800000#32) i) 3 :=
  rung 3 _ _ _ (ofBits_two_pow 3 rfl rfl rfl (by norm_num) (by norm_num)) (ofBits_two_pow 4 rfl rfl rfl (by norm_num) (by norm_num))
    (ofBits_two_pow (-4) rfl rfl rfl (by norm_num) (by norm_num)) h

theorem rung1 {z s i : EReal} (h : Lad z s i 3) :
    Lad z (Scalar.select (Ideal.cmp .oge z (s * Ideal.ofBits .f32 0x40000000#32)) (s * Ideal.ofBits .f32 0x40800000#32) s)
      (Scalar.select (Ideal.cmp .oge z (s * Ideal.ofBits .f32 0x40000000#32)) (i * Ideal.ofBits .f32 0x3E800000#32) i) 1 :=
  rung 1 _ _ _ (ofBits_two_pow 1 rfl rfl rfl (by norm_num) (by norm_num)) (ofBits_two_pow 2 rfl rfl rfl (by norm_num) (by norm_num))
    (ofBits_two_pow (-2) rfl rfl rfl (by norm_num) (by norm_num)) h

theorem rung0 {z s i : EReal} (h : Lad z s i 1) :
    Lad z (Scalar.select (Ideal.cmp .oge z (s * Ideal.ofBits .f32 0x3F800000#32)) (s * Ideal.ofBits .f32 0x40000000#32) s)
      (Scalar.select (Ideal.cmp .oge z (s * Ideal.ofBits .f32 0x3F800000#32)) (i * Ideal.ofBits .f32 0x3F000000#32) i) 0 :=
  rung 0 _ _ _ (ofBits_two_pow 0 rfl rfl rfl (by norm_num) (by norm_num)) (ofBits_two_pow 1 rfl rfl rfl (by norm_num) (by norm_num))
    (ofBits_two_pow (-1) rfl rfl rfl (by norm_num) (by norm_num)) h

/-- The scale and its inverse, chosen by whether the row's largest magnitude is zero. -/
theorem choice {a s i : EReal} (ha : 0 ≤ a) (h : Lad (a * q448) s i 0) :
    Scalar.select (Ideal.cmp .oeq a (Ideal.ofBits .f32 0x00000000#32)) (Ideal.ofBits .f32 0x3F800000#32) s = Ideal.exp2 (rowExp a q448) ∧
      Scalar.select (Ideal.cmp .oeq a (Ideal.ofBits .f32 0x00000000#32)) (Ideal.ofBits .f32 0x3F800000#32) i = Ideal.exp2 (0 - rowExp a q448) := by
  rw [bits_zero, bits_one, select_oeq_zero, select_oeq_zero]
  exact scale_of_lad ha q448_pos h

theorem lad_top (M : FVec Ideal S256x256 .bf16) (a : FVec Ideal S256x1 .f32) (u : FVec Ideal S256x256 .bf16) (v : Vec Ideal S256x256 .f32) (j : S256x1.Idx) :
    Lad (k0_pay30 M a u v j) (k0_pay34 M a u v j) (k0_pay35 M a u v j) 63 := by
  have h0 := foot (k0_pay30 M a u v j)
  have h1 : Lad (k0_pay30 M a u v j) (k0_pay32 M a u v j) _ 127 := h0
  have h2 := rung63 h1
  exact h2

theorem lad_mid (z s i : FVec Ideal S256x1 .f32) (j : S256x1.Idx)
    (h : Lad (z j) (s j) (i j) 63) :
    Lad (z j) (k0_pay45 z s (Ideal.ofBits .f32 0x4F000000#32) j) (k0_pay46 z s i (Ideal.ofBits .f32 0x4F000000#32) j) 1 := by
  have h0 := rung31 h
  have h1 : Lad (z j) (k0_pay37 z s (Ideal.ofBits .f32 0x4F000000#32) j) _ 31 := h0
  have h2 := rung15 h1
  have h3 : Lad (z j) (k0_pay39 z s (Ideal.ofBits .f32 0x4F000000#32) j) _ 15 := h2
  have h4 := rung7 h3
  have h5 : Lad (z j) (k0_pay41 z s (Ideal.ofBits .f32 0x4F000000#32) j) _ 7 := h4
  have h6 := rung3 h5
  have h7 : Lad (z j) (k0_pay43 z s (Ideal.ofBits .f32 0x4F000000#32) j) _ 3 := h6
  have h8 := rung1 h7
  exact h8

theorem column_apply (w : FVec Ideal S256x1 .f32) (r : Fin 256) (c : Fin 2048) :
    broadcastTo S256x2048 w broadcasts_S256x1_S256x2048 (ix2 r c) = w (ix2 r 0) := by
  pointwise

theorem column_apply' (w : FVec Ideal S256x1 .f32) (r : Fin 256) (c : Fin 6144) :
    broadcastTo S256x6144 w broadcasts_S256x1_S256x6144 (ix2 r c) = w (ix2 r 0) := by
  pointwise

/-- The scale of a row of the input block. -/
theorem pay48_apply (a z s i : FVec Ideal S256x1 .f32) (j : S256x1.Idx)
    (ha : 0 ≤ a j) (hz : z j = a j * q448) (h : Lad (z j) (s j) (i j) 1) : k0_pay48 a z s (Ideal.ofBits .f32 0x3F800000#32) j = Ideal.exp2 (rowExp (a j) q448) := by
  have h1 := rung0 h
  rw [hz] at h1
  refine Eq.trans ?_ (choice ha h1).1
  rw [← hz]
  rfl

/-- The inverse of the scale, as the codes of the input block use it. -/
theorem pay49_apply (a z s i : FVec Ideal S256x1 .f32) (v : Vec Ideal S256x2048 .f32)
    (r : Fin 256) (k : Fin 2048)
    (ha : 0 ≤ a (ix2 r 0)) (hz : z (ix2 r 0) = a (ix2 r 0) * q448) (h : Lad (z (ix2 r 0)) (s (ix2 r 0)) (i (ix2 r 0)) 1) :
    k0_pay49 a z s i (Ideal.ofBits .f32 0x3F800000#32) v (ix2 r k) = clip (v (ix2 r k) * Ideal.exp2 (0 - rowExp (a (ix2 r 0)) q448)) := by
  have h1 := rung0 h
  rw [hz] at h1
  rw [← (choice ha h1).2, ← hz]
  refine (clip_vec _ _ _ _).trans ?_
  rw [column_apply]
  rfl

/-! ## The second ladder -/

theorem lad_start' (a : FVec Ideal S256x1 .f32) (j : S256x1.Idx) :
    Lad (k0_pay54 a j) (k0_pay65 (k0_pay54 a) (k0_pay55 a) (Ideal.ofBits .f32 0x00800000#32) k0_pay56 j)
      (k0_pay66 (k0_pay54 a) (k0_pay55 a) (Ideal.ofBits .f32 0x00800000#32) k0_pay56 j) 7 := by
  have h0 := foot (k0_pay54 a j)
  have h1 : Lad (k0_pay54 a j) (k0_pay57 (k0_pay55 a) (Ideal.ofBits .f32 0x00800000#32) k0_pay56 j) _ 127 := h0
  have h2 := rung63 h1
  have h3 : Lad (k0_pay54 a j) (k0_pay59 (k0_pay54 a) (k0_pay55 a) (Ideal.ofBits .f32 0x00800000#32) k0_pay56 j) _ 63 := h2
  have h4 := rung31 h3
  have h5 : Lad (k0_pay54 a j) (k0_pay61 (k0_pay54 a) (k0_pay55 a) (Ideal.ofBits .f32 0x00800000#32) k0_pay56 j) _ 31 := h4
  have h6 := rung15 h5
  have h7 : Lad (k0_pay54 a j) (k0_pay63 (k0_pay54 a) (k0_pay55 a) (Ideal.ofBits .f32 0x00800000#32) k0_pay56 j) _ 15 := h6
  have h8 := rung7 h7
  exact h8

/-- The ladder's last rungs, on the rung's comparison `d`. -/
theorem lad_end (z s i : FVec Ideal S256x1 .f32) (d : IVec S256x1 1) (j : S256x1.Idx)
    (hd : d j = Ideal.cmp .oge (z j) (s j * Ideal.ofBits .f32 0x41000000#32))
    (h : Lad (z j) (s j) (i j) 7) :
    Lad (z j) (Scalar.select (k0_pay71 z s d (Ideal.ofBits .f32 0x41800000#32) j) (k0_pay70 z s d (Ideal.ofBits .f32 0x41800000#32) j * Ideal.ofBits .f32 0x40000000#32) (k0_pay70 z s d (Ideal.ofBits .f32 0x41800000#32) j))
      (Scalar.select (k0_pay71 z s d (Ideal.ofBits .f32 0x41800000#32) j)
        (Scalar.select (k0_pay69 z s d (Ideal.ofBits .f32 0x41800000#32) j) (Scalar.select (d j) (i j * Ideal.ofBits .f32 0x3D800000#32) (i j) * Ideal.ofBits .f32 0x3E800000#32)
          (Scalar.select (d j) (i j * Ideal.ofBits .f32 0x3D800000#32) (i j)) * Ideal.ofBits .f32 0x3F000000#32)
        (Scalar.select (k0_pay69 z s d (Ideal.ofBits .f32 0x41800000#32) j) (Scalar.select (d j) (i j * Ideal.ofBits .f32 0x3D800000#32) (i j) * Ideal.ofBits .f32 0x3E800000#32)
          (Scalar.select (d j) (i j * Ideal.ofBits .f32 0x3D800000#32) (i j)))) 0 := by
  have h1 := rung3 h
  rw [← hd] at h1
  have h2 : Lad (z j) (k0_pay68 s d (Ideal.ofBits .f32 0x41800000#32) j) _ 3 := h1
  have h3 := rung1 h2
  have h4 : Lad (z j) (k0_pay70 z s d (Ideal.ofBits .f32 0x41800000#32) j) _ 1 := h3
  have h5 := rung0 h4
  exact h5

/-- The scale of a rotated hidden row. -/
theorem pay72_apply (a z s i : FVec Ideal S256x1 .f32) (d : IVec S256x1 1) (j : S256x1.Idx)
    (hd : d j = Ideal.cmp .oge (z j) (s j * Ideal.ofBits .f32 0x41000000#32))
    (ha : 0 ≤ a j) (hz : z j = a j * q448) (h : Lad (z j) (s j) (i j) 7) : k0_pay72 a z s d (Ideal.ofBits .f32 0x41800000#32) j = Ideal.exp2 (rowExp (a j) q448) := by
  have h1 := lad_end z s i d j hd h
  rw [hz] at h1
  exact (choice ha h1).1

/-- The codes of a rotated hidden row. -/
theorem pay73_apply (a z s i : FVec Ideal S256x1 .f32) (d : IVec S256x1 1)
    (v : Vec Ideal S256x6144 .f32) (r : Fin 256) (k : Fin 6144)
    (hd : d (ix2 r 0) = Ideal.cmp .oge (z (ix2 r 0)) (s (ix2 r 0) * Ideal.ofBits .f32 0x41000000#32))
    (ha : 0 ≤ a (ix2 r 0)) (hz : z (ix2 r 0) = a (ix2 r 0) * q448) (h : Lad (z (ix2 r 0)) (s (ix2 r 0)) (i (ix2 r 0)) 7) :
    k0_pay73 a z s i d (Ideal.ofBits .f32 0x41800000#32) v (ix2 r k) = clip (v (ix2 r k) * Ideal.exp2 (0 - rowExp (a (ix2 r 0)) q448)) := by
  have h1 := lad_end z s i d (ix2 r 0) hd h
  rw [hz] at h1
  rw [← (choice ha h1).2]
  refine (clip_vec _ _ _ _).trans ?_
  rw [column_apply']
  rfl

/-! ## The gated products and the output columns -/

/-- The gated products of a trip's 512 columns. -/
theorem pay3_apply (s : FVec Ideal S256x1 .f32) (x : Vec Ideal S256x2048 .fp8e4m3) (wg wu : Vec Ideal S2048x512 .fp8e4m3) (sg su : Vec Ideal S1x512 .f32)
    (r : Fin 256) (f : Fin 512) :
    k0_pay3 s x wg wu sg su (ix2 r f) =
      ((∑ k : Fin 2048, x (ix2 r k) * wg (ix2 k f)) * s (ix2 r 0) * sg (ix2 0 f)) *
          Ideal.logistic ((∑ k : Fin 2048, x (ix2 r k) * wg (ix2 k f)) * s (ix2 r 0) * sg (ix2 0 f)) *
        ((∑ k : Fin 2048, x (ix2 r k) * wu (ix2 k f)) * s (ix2 r 0) * su (ix2 0 f)) := by
  pointwise [k0_pay3]

theorem cut0_apply (v : FVec Ideal S256x512 .f32) (M : FVec Ideal S256x256 .bf16) (r c : Fin 256) :
    matmul dot_S256x256_S256x256_S256x256_1_0_0_1_n_n none
        (truncf .bf16 (extractStridedSlice S256x256 ![0, 0] v slices_S256x512_o0_0_S256x256) bitsLt_bf16_f32) M (constant S256x256 .f32 0x00000000#32) (ix2 r c)
      = ∑ j : Fin 256, v (ix2 r ⟨j, by omega⟩) * M (ix2 j c) := by
  pointwise

theorem pay4_apply (M : FVec Ideal S256x256 .bf16) (s : FVec Ideal S256x1 .f32) (x : Vec Ideal S256x2048 .fp8e4m3) (wg wu : Vec Ideal S2048x512 .fp8e4m3)
    (sg su : Vec Ideal S1x512 .f32) (r c : Fin 256) :
    k0_pay4 M s x wg wu sg su (ix2 r c) = ∑ j : Fin 256, k0_pay3 s x wg wu sg su (ix2 r ⟨j, by omega⟩) * M (ix2 j c) :=
  cut0_apply _ _ r c

theorem cut1_apply (v : FVec Ideal S256x512 .f32) (r c : Fin 256) :
    truncf .bf16 (extractStridedSlice S256x256 ![0, 256] v slices_S256x512_o0_256_S256x256) bitsLt_bf16_f32 (ix2 r c) = v (ix2 r ⟨256 + c, by omega⟩) := by
  pointwise

theorem pay7_apply (s : FVec Ideal S256x1 .f32) (x : Vec Ideal S256x2048 .fp8e4m3) (wg wu : Vec Ideal S2048x512 .fp8e4m3)
    (sg su : Vec Ideal S1x512 .f32) (r c : Fin 256) :
    k0_pay7 s x wg wu sg su (ix2 r c) = k0_pay3 s x wg wu sg su (ix2 r ⟨256 + c, by omega⟩) :=
  cut1_apply _ r c

theorem pay6_apply (M : FVec Ideal S256x256 .bf16) (s a : FVec Ideal S256x1 .f32) (x : Vec Ideal S256x2048 .fp8e4m3) (wg wu : Vec Ideal S2048x512 .fp8e4m3)
    (sg su : Vec Ideal S1x512 .f32) (r : Fin 256) :
    k0_pay6 M s a x wg wu sg su (ix2 r 0) = max (a (ix2 r 0)) (absMax fun c => k0_pay4 M s x wg wu sg su (ix2 r c)) := by
  rw [← rowMax_apply]
  rfl

/-- The output columns. -/
theorem pay74_apply (s : FVec Ideal S256x1 .f32) (h : Vec Ideal S256x6144 .fp8e4m3) (w : Vec Ideal S6144x512 .fp8e4m3) (ws : Vec Ideal S1x512 .f32)
    (r : Fin 256) (c : Fin 512) : k0_pay74 s h w ws (ix2 r c) = (∑ k : Fin 6144, h (ix2 r k) * w (ix2 k c)) * s (ix2 r 0) * ws (ix2 0 c) := by
  pointwise [k0_pay74]

theorem pay75_apply (s : FVec Ideal S256x1 .f32) (h : Vec Ideal S256x6144 .fp8e4m3) (w : Vec Ideal S6144x512 .fp8e4m3) (ws : Vec Ideal S1x512 .f32)
    (r : Fin 256) (c : Fin 512) : k0_pay75 s h w ws (ix2 r c) = (∑ k : Fin 6144, h (ix2 r k) * w (ix2 k c)) * s (ix2 r 0) * ws (ix2 0 c) := by
  pointwise [k0_pay75]

theorem pay2_apply (s : FVec Ideal S256x1 .f32) (h : Vec Ideal S256x6144 .fp8e4m3) (w : Vec Ideal S6144x512 .fp8e4m3) (ws : Vec Ideal S1x512 .f32)
    (r : Fin 256) (c : Fin 512) : k0_pay2 s h w ws (ix2 r c) = (∑ k : Fin 6144, h (ix2 r k) * w (ix2 k c)) * s (ix2 r 0) * ws (ix2 0 c) := by
  pointwise [k0_pay2]

theorem pay1_apply (s : FVec Ideal S256x1 .f32) (h : Vec Ideal S256x6144 .fp8e4m3) (w : Vec Ideal S6144x512 .fp8e4m3) (ws : Vec Ideal S1x512 .f32)
    (r : Fin 256) (c : Fin 512) :
    k0_pay1 (k0_pay76 s h w) (k0_pay77 ws) (ix2 r c) = (∑ k : Fin 6144, h (ix2 r k) * w (ix2 k c)) * s (ix2 r 0) * ws (ix2 0 c) := by
  pointwise [k0_pay1, k0_pay76, k0_pay77]

end Cert.KernelIdeal.Value
-- ==== Proof.KerLoop.lean ====
/-
  The kernel's loop over the hidden columns, 512 at a trip: its carried value is a running maximum, and what its trips store is
  the rotated hidden block.
-/
module

public import proofs.«01_k».proof.Proof.KerPay
public import Idealize.ShloMosaic.Lib.Pipeline.Value
public import Idealize.ShloMosaic.Lib.Pipeline.ValueKit.Geometry

@[expose] public section

noncomputable section

namespace Cert.KernelIdeal.Value

open Cert.KernelIdeal Cert.KernelIdeal.Gen Cert.Mlp Idealize.ShloMosaic
open scoped BigOperators

/-! ## Rectangles -/

/-- The place of a rectangle's entry. -/
theorem emb2 {m n p q : ℕ} (off : Fin 2 → ℕ) (inb) (o0 o1 : ℕ) (h : off = ![o0, o1]) (a : Fin p) (b : Fin q) (h0 : o0 + a.val < m) (h1 : o1 + b.val < n) :
    (Rect.unit (s := (⟨2, ![m, n]⟩ : Shape)) off ![p, q] inb).emb (ix2 a b) = ix2 ⟨o0 + a, h0⟩ ⟨o1 + b, h1⟩ := by
  subst h
  funext x
  fin_cases x
  · exact Fin.ext (ValueKit.rect_emb_unit_val _ _ _ _ _)
  · exact Fin.ext (ValueKit.rect_emb_unit_val _ _ _ _ _)

/-- A load's entry, read from the buffer. -/
theorem readAt2 {sig : RefSig} {κ : Kind} {sp : Space} {Val : EltTy → Type} {e : EltTy} {m n p q : ℕ} (v : View sig κ sp (⟨2, ![m, n]⟩ : Shape) e)
    (f : v.ty.Contents Val) (off : Fin 2 → ℕ) (inb) (o0 o1 : ℕ) (h : off = ![o0, o1]) (a : Fin p) (b : Fin q) (h0 : o0 + a.val < m) (h1 : o1 + b.val < n) :
    v.readAt Val (Rect.unit (s := (⟨2, ![m, n]⟩ : Shape)) off ![p, q] inb).toLoadRect f (ix2 a b) = v.read Val f (ix2 ⟨o0 + a, h0⟩ ⟨o1 + b, h1⟩) :=
  congrArg (v.read Val f) (emb2 off inb o0 o1 h a b h0 h1)

/-- Where a rectangle lies. -/
theorem mem2 {m n p q : ℕ} (off : Fin 2 → ℕ) (inb) (o0 o1 : ℕ) (h : off = ![o0, o1]) (a : Fin m) (b : Fin n) (ha : o0 ≤ a.val ∧ a.val < o0 + p)
    (hb : o1 ≤ b.val ∧ b.val < o1 + q) : ix2 a b ∈ (Rect.unit (s := (⟨2, ![m, n]⟩ : Shape)) off ![p, q] inb).set := by
  subst h
  rw [Rect.mem_set_unit]
  intro x
  fin_cases x
  · exact ha
  · exact hb

/-- A piece of full height whose entries are those of `H` at its columns. -/
theorem piece_ok {m n q : ℕ} (H : Fin m → Fin n → EReal) (off : Fin 2 → ℕ) (inb) (o1 : ℕ) (h : off = ![0, o1]) (w : (⟨2, ![m, q]⟩ : Shape).Idx → EReal)
    (hw : ∀ (r : Fin m) (c : Fin q) (hc : o1 + c.val < n), w (ix2 r c) = H r ⟨o1 + c, hc⟩) (y : (⟨2, ![m, q]⟩ : Shape).Idx) :
    w y = (fun y : (⟨2, ![m, n]⟩ : Shape).Idx => H (y 0) (y 1)) ((Rect.unit (s := (⟨2, ![m, n]⟩ : Shape)) off ![m, q] inb).emb y) := by
  have hb : o1 + q ≤ n := by subst h; exact inb 1
  have h0 : (y 0).val < m := (y 0).isLt
  have h1 : (y 1).val < q := (y 1).isLt
  have e : (Rect.unit (s := (⟨2, ![m, n]⟩ : Shape)) off ![m, q] inb).emb y = ix2 ⟨0 + (y 0).val, by omega⟩ ⟨o1 + (y 1).val, by omega⟩ :=
    (congrArg _ (eq_ix2 y)).trans (emb2 off inb 0 o1 h (y 0) (y 1) _ _)
  rw [e]
  refine (congrArg w (eq_ix2 y)).trans ((hw (y 0) (y 1) (by omega)).trans ?_)
  exact congrArg (fun z => H z ⟨o1 + (y 1).val, by omega⟩) (Fin.ext (Nat.zero_add _).symm)

/-! ## Rotating by blocks of 256 -/

/-- A row of `n` entries rotated by blocks of 256. -/
abbrev rot256 {n : ℕ} (hd : 256 ∣ n) (M : S256x256.Idx → EReal) (v : Fin n → EReal) : Fin n → EReal :=
  rot 256 (by norm_num) hd (fun a b => M (ix2 a b)) v

/-- Block `g` of a rotated row is block `g` of the row times the matrix. -/
theorem block_rot {n : ℕ} (hd : 256 ∣ n) (M w : S256x256.Idx → EReal) (v : Fin n → EReal) (r : Fin 256) (o : ℕ) (ho : o % 256 = 0) (hn : o + 256 ≤ n)
    (hw : ∀ j : Fin 256, w (ix2 r j) = v ⟨o + j, by omega⟩) (c : Fin 256) : mulRow M w r c = rot256 hd M v ⟨o + c, by omega⟩ := by
  unfold mulRow rot256 rot
  refine Finset.sum_congr rfl fun j _ => ?_
  rw [hw]
  have h1 : 256 * ((o + c.val) / 256) = o := by omega
  have h2 : (o + c.val) % 256 = c.val := by omega
  refine congrArg₂ (· * ·) (congrArg v (Fin.ext ?_)) (congrArg (fun z => M (ix2 j z)) (Fin.ext h2.symm))
  exact congrArg (· + j.val) h1.symm

/-! ## The trips -/

section
variable (M : FVec Ideal S256x256 .bf16) (s : FVec Ideal S256x1 .f32) (X : Vec Ideal S256x2048 .fp8e4m3) (W : Vec Ideal S2048x12288 .fp8e4m3) (WS : Vec Ideal S1x12288 .f32)

/-- The hidden row of row `r` of the codes `X` at scales `s`. -/
def hidRow (r : Fin 256) : Fin 6144 → EReal := hid (fun k f => W (ix2 k f)) (fun f => WS (ix2 0 f)) (fun k => X (ix2 r k)) (s (ix2 r 0))

/-- That row, rotated. -/
def hidRot (r : Fin 256) : Fin 6144 → EReal := rot256 (by norm_num) M (hidRow s X W WS r)

/-- Trip `k` turns the running maximum and the stores `prev` into `next`: it loads its columns of the weights and of their scales, and
    stores the rotated products in two blocks of 256 columns. -/
def TripIs (k : Fin k0_t1_loop.trips) (prev next : FVec Ideal S256x1 .f32 × List (View.Piece (Elt Ideal) S256x6144 .f32)) : Prop :=
  ∃ (x : Vec Ideal S256x2048 .fp8e4m3) (wg wu : Vec Ideal S2048x512 .fp8e4m3) (sg su : Vec Ideal S1x512 .f32) (inb0 : _) (inb1 : _),
    (∀ (r : Fin 256) (j : Fin 2048), x (ix2 r j) = X (ix2 r j)) ∧
    (∀ (a : Fin 2048) (f : Fin 512) (h : 512 * k.val + f.val < 12288), wg (ix2 a f) = W (ix2 a ⟨512 * k.val + f, h⟩)) ∧
    (∀ (a : Fin 2048) (f : Fin 512) (h : 512 * k.val + 6144 + f.val < 12288), wu (ix2 a f) = W (ix2 a ⟨512 * k.val + 6144 + f, h⟩)) ∧
    (∀ (f : Fin 512) (h : 512 * k.val + f.val < 12288), sg (ix2 0 f) = WS (ix2 0 ⟨512 * k.val + f, h⟩)) ∧
    (∀ (f : Fin 512) (h : 512 * k.val + 6144 + f.val < 12288), su (ix2 0 f) = WS (ix2 0 ⟨512 * k.val + 6144 + f, h⟩)) ∧
    next = (k0_pay53 M (k0_pay6 M s prev.1 x wg wu sg su) (k0_pay7 s x wg wu sg su),
      [⟨Rect.unit (s := S256x6144) (k0_off5 k 256#32) ![256, 256] inb1, k0_pay52 M (k0_pay7 s x wg wu sg su)⟩,
        ⟨Rect.unit (s := S256x6144) (k0_off5 k 0#32) ![256, 256] inb0, k0_pay5 M s x wg wu sg su⟩] ++ prev.2)

theorem pay52_apply (v : FVec Ideal S256x256 .bf16) (r c : Fin 256) : k0_pay52 M v (ix2 r c) = mulRow M v r c := by
  rw [← pay51_apply]
  unfold k0_pay52
  generalize k0_pay51 M v = w
  pointwise

theorem pay5_apply (x : Vec Ideal S256x2048 .fp8e4m3) (wg wu : Vec Ideal S2048x512 .fp8e4m3) (sg su : Vec Ideal S1x512 .f32) (r c : Fin 256) :
    k0_pay5 M s x wg wu sg su (ix2 r c) = k0_pay4 M s x wg wu sg su (ix2 r c) := by
  unfold k0_pay5
  generalize k0_pay4 M s x wg wu sg su = w
  pointwise

/-- After `k` trips: the running maximum of the first `512 k` rotated columns, every store a block of the rotated rows, and those
    columns stored. -/
theorem trips_inv (S : ℕ → FVec Ideal S256x1 .f32 × List (View.Piece (Elt Ideal) S256x6144 .f32)) (h0 : S 0 = (k0_pay50, []))
    (hS : ∀ k : Fin k0_t1_loop.trips, TripIs M s X W WS k (S k.val) (S (k.val + 1))) :
    ∀ k : ℕ, k ≤ 12 → k ≤ k0_t1_loop.trips →
      (∀ r : Fin 256, (S k).1 (ix2 r 0) = runMax (hidRot M s X W WS r) (512 * k)) ∧
      (∀ p ∈ (S k).2, ∀ x : p.1.shape.Idx, p.2 x = (fun y : S256x6144.Idx => hidRot M s X W WS (y 0) (y 1)) (p.1.emb x)) ∧
      (∀ (r : Fin 256) (c : Fin 6144), c.val < 512 * k → ∃ p ∈ (S k).2, (ix2 r c : S256x6144.Idx) ∈ p.1.set) := by
  intro k
  induction k with
  | zero =>
    intro _ _
    rw [h0]
    exact ⟨fun r => by rw [Nat.mul_zero, runMax_zero]; exact pay50_apply r, fun p hp => absurd hp List.not_mem_nil, fun r c hc => absurd hc (by omega)⟩
  | succ k ih =>
    intro hk hk'
    obtain ⟨i1, i2, i3⟩ := ih (by omega) (by omega)
    obtain ⟨x, wg, wu, sg, su, inb0, inb1, hx, hwg, hwu, hsg, hsu, hn⟩ := hS ⟨k, by omega⟩
    simp only at hwg hwu hsg hsu hn
    have hf : ∀ (r : Fin 256) (f : Fin 512), k0_pay3 s x wg wu sg su (ix2 r f) = hidRow s X W WS r ⟨512 * k + f, by omega⟩ := by
      intro r f
      rw [pay3_apply, hsg f (by omega), hsu f (by omega), hidRow, hid]
      simp only [hx, hwg _ f (by omega), hwu _ f (by omega)]
      have e : 6144 + (512 * k + f.val) = 512 * k + 6144 + f.val := by omega
      simp only [e]
    have ha : ∀ r c : Fin 256, k0_pay4 M s x wg wu sg su (ix2 r c) = hidRot M s X W WS r ⟨512 * k + c, by omega⟩ := by
      intro r c
      rw [pay4_apply]
      exact block_rot (by norm_num) M (fun y => k0_pay3 s x wg wu sg su (ix2 (y 0) ⟨(y 1).val, by have := (y 1).isLt; exact lt_trans this (by norm_num)⟩)) _ r (512 * k) (by omega) (by omega) (fun j => hf r ⟨j, by omega⟩) c
    have hb : ∀ r c : Fin 256, mulRow M (k0_pay7 s x wg wu sg su) r c = hidRot M s X W WS r ⟨512 * k + 256 + c, by omega⟩ := by
      intro r c
      refine block_rot (by norm_num) M _ _ r (512 * k + 256) (by omega) (by omega) (fun j => ?_) c
      rw [pay7_apply, hf]
      congr 1
      exact Fin.ext (by show 512 * k + (256 + j.val) = 512 * k + 256 + j.val; omega)
    have o0 : k0_off5 ⟨k, by omega⟩ 0#32 = ![0, 512 * k] := k0_off5_eq ⟨k, by omega⟩ 0
    have o1 : k0_off5 ⟨k, by omega⟩ 256#32 = ![0, 512 * k + 256] := k0_off5_eq ⟨k, by omega⟩ 1
    rw [hn]
    refine ⟨fun r => ?_, fun p hp => ?_, fun r c hc => ?_⟩
    · refine (pay53_apply M _ _ r).trans ?_
      rw [pay6_apply, i1]
      unfold absMax
      rw [runMax_add _ (512 * k) 256 (by omega) _ (fun j => ha r j), runMax_add _ (512 * k + 256) 256 (by omega) _ (fun j => hb r j)]
      congr 1
    · rcases List.mem_append.1 hp with hp | hp
      · rcases List.mem_cons.1 hp with rfl | hp
        · exact piece_ok (hidRot M s X W WS) _ inb1 (512 * k + 256) o1 _ fun r c _ => (pay52_apply M _ r c).trans (hb r c)
        · obtain rfl := List.mem_singleton.1 hp
          exact piece_ok (hidRot M s X W WS) _ inb0 (512 * k) o0 _ fun r c _ => (pay5_apply M s x wg wu sg su r c).trans (ha r c)
      · exact i2 p hp
    · by_cases h1 : c.val < 512 * k
      · obtain ⟨p, hp, hm⟩ := i3 r c h1
        exact ⟨p, List.mem_append_right _ hp, hm⟩
      · by_cases h2 : c.val < 512 * k + 256
        · exact ⟨_, List.mem_append_left _ (List.mem_cons_of_mem _ List.mem_cons_self), mem2 _ inb0 0 (512 * k) o0 r c ⟨by omega, by omega⟩ ⟨by omega, by omega⟩⟩
        · exact ⟨_, List.mem_append_left _ List.mem_cons_self, mem2 _ inb1 0 (512 * k + 256) o1 r c ⟨by omega, by omega⟩ ⟨by omega, by omega⟩⟩

end

end Cert.KernelIdeal.Value
-- ==== Proof.KerBlock.lean ====
/-
  One grid step's block of 256 rows, as mathematics: what each of the five results' blocks holds, and that the payloads the
  kernel stores are those.
-/
module

public import proofs.«01_k».proof.Proof.KerLoop

@[expose] public section

noncomputable section

namespace Cert.KernelIdeal.Value

open Cert.KernelIdeal Cert.KernelIdeal.Gen Cert.Mlp Idealize.ShloMosaic
open scoped BigOperators

/-! ## The five blocks -/

section
variable (x0 : Vec Ideal S256x2048 .f32) (x1 : Vec Ideal S256x256 .bf16) (x2 : Vec Ideal S2048x12288 .fp8e4m3) (x3 : Vec Ideal S1x12288 .f32)
  (x4 : Vec Ideal S6144x2048 .fp8e4m3) (x5 : Vec Ideal S1x2048 .f32)

/-- Row `r` of the input block, rotated by blocks of 256. -/
def bx (r : Fin 256) : Fin 2048 → EReal := rot256 (by norm_num) x1 fun c => x0 (ix2 r c)

/-- Row `r` of the hidden block, rotated by blocks of 256. -/
def bh (r : Fin 256) : Fin 6144 → EReal := rot256 (by norm_num) x1 (hidOf (fun k f => x2 (ix2 k f)) (fun f => x3 (ix2 0 f)) (bx x0 x1 r))

/-- The blocks of the five results. -/
def outY : Vec Ideal S256x2048 .f32 := fun y => downOf (fun f k => x4 (ix2 f k)) (fun k => x5 (ix2 0 k)) (bh x0 x1 x2 x3 (y 0)) (y 1)
def outXC : Vec Ideal S256x2048 .fp8e4m3 := fun y => codes (bx x0 x1 (y 0)) (y 1)
def outXS : Vec Ideal S256x1 .f32 := fun y => scale (bx x0 x1 (y 0))
def outHC : Vec Ideal S256x6144 .fp8e4m3 := fun y => codes (bh x0 x1 x2 x3 (y 0)) (y 1)
def outHS : Vec Ideal S256x1 .f32 := fun y => scale (bh x0 x1 x2 x3 (y 0))

end

/-- An index of a column. -/
theorem col_idx (i : S256x1.Idx) : ix2 (i 0) (0 : Fin 1) = i := by
  rw [eq_ix2 i]
  exact congrArg (ix2 (i 0)) (Subsingleton.elim (α := Fin 1) _ _)

/-- The kernel's change of format leaves the matrix as it is. -/
theorem pay8_eq (A : Vec Ideal S256x256 .bf16) : k0_pay8 A = A := funext fun y => by
  rw [eq_ix2 y]; exact pay8_apply A _ _

/-! ## The input block -/

section
variable (A : Vec Ideal S256x256 .bf16) (X : Vec Ideal S256x2048 .f32) (u0 u1 u2 u3 u4 u5 u6 u7 : Vec Ideal S256x256 .f32)

/-- `u` is the block of `X`'s columns from `o` on. -/
def IsCols (o : ℕ) (u : Vec Ideal S256x256 .f32) : Prop := ∀ (r j : Fin 256) (h : o + j.val < 2048), u (ix2 r j) = X (ix2 r ⟨o + j, h⟩)

/-- A running maximum taken one block of 256 rotated columns further. -/
theorem runMax_block {n : ℕ} (hd : 256 ∣ n) (M w : S256x256.Idx → EReal) (v : Fin n → EReal) (r : Fin 256) (o : ℕ) (ho : o % 256 = 0) (hn : o + 256 ≤ n)
    (hw : ∀ j : Fin 256, w (ix2 r j) = v ⟨o + j, by omega⟩) :
    max (runMax (rot256 hd M v) o) (absMax (mulRow M w r)) = runMax (rot256 hd M v) (o + 256) := by
  unfold absMax
  exact runMax_add _ o 256 hn _ fun j => block_rot hd M w v r o ho hn hw j

/-- The kernel's largest magnitude of a row of the input block. -/
abbrev kmax : FVec Ideal S256x1 .f32 :=
  k0_pay29 (k0_pay8 A) (k0_pay23 (k0_pay8 A) (k0_pay13 A u0 u1) (k0_pay16 A u2) u3 u4 u5) (k0_pay24 u6) u7

theorem kmax_apply (h0 : IsCols X 0 u0) (h1 : IsCols X 256 u1) (h2 : IsCols X 512 u2) (h3 : IsCols X 768 u3) (h4 : IsCols X 1024 u4)
    (h5 : IsCols X 1280 u5) (h6 : IsCols X 1536 u6) (h7 : IsCols X 1792 u7) (r : Fin 256) :
    kmax A u0 u1 u2 u3 u4 u5 u6 u7 (ix2 r 0) = absMax (bx X A r) := by
  have e6 : mulRow A (k0_pay24 u6) r = mulRow A u6 r := funext fun c => Finset.sum_congr rfl fun j _ => by rw [pay24_apply]
  unfold kmax
  rw [pay29_apply, pay23_apply, pay13_apply, pay16_apply, pay8_eq, e6, ← runMax_full (bx X A r) (by norm_num), ← runMax_zero (bx X A r)]
  unfold bx
  rw [runMax_block _ A u0 _ r 0 (by norm_num) (by norm_num) fun j => h0 r j _, runMax_block _ A u1 _ r 256 (by norm_num) (by norm_num) fun j => h1 r j _,
    runMax_block _ A u2 _ r 512 (by norm_num) (by norm_num) fun j => h2 r j _, runMax_block _ A u3 _ r 768 (by norm_num) (by norm_num) fun j => h3 r j _,
    runMax_block _ A u4 _ r 1024 (by norm_num) (by norm_num) fun j => h4 r j _, runMax_block _ A u5 _ r 1280 (by norm_num) (by norm_num) fun j => h5 r j _,
    runMax_block _ A u6 _ r 1536 (by norm_num) (by norm_num) fun j => h6 r j _, runMax_block _ A u7 _ r 1792 (by norm_num) (by norm_num) fun j => h7 r j _]

end

section
variable (M : FVec Ideal S256x256 .bf16) (a : FVec Ideal S256x1 .f32) (u : FVec Ideal S256x256 .bf16) (v : Vec Ideal S256x256 .f32)

theorem pay30_eq (j : S256x1.Idx) : k0_pay30 M a u v j = k0_pay29 M a u v j * q448 := rfl

/-- The input block's scales, as the kernel writes them. -/
abbrev kscale : FVec Ideal S256x1 .f32 :=
  k0_pay48 (k0_pay29 M a u v) (k0_pay30 M a u v) (k0_pay45 (k0_pay30 M a u v) (k0_pay34 M a u v) (Ideal.ofBits .f32 0x4F000000#32)) (Ideal.ofBits .f32 0x3F800000#32)

theorem kscale_apply {n : ℕ} (hn : 0 < n) (w : Fin n → EReal) (j : S256x1.Idx) (h : k0_pay29 M a u v j = absMax w) : kscale M a u v j = scale w := by
  have hm := lad_mid (k0_pay30 M a u v) _ _ j (lad_top M a u v j)
  refine (pay48_apply _ _ _ _ j (by rw [h]; exact absMax_nonneg w hn) (pay30_eq M a u v j) hm).trans ?_
  rw [h, scale]

/-- The input block's codes, as the kernel writes them. -/
theorem kcodes_apply (w : Fin 2048 → EReal) (V : Vec Ideal S256x2048 .f32) (r : Fin 256) (h : k0_pay29 M a u v (ix2 r 0) = absMax w)
    (hV : ∀ k, V (ix2 r k) = w k) (k : Fin 2048) :
    k0_pay49 (k0_pay29 M a u v) (k0_pay30 M a u v) (k0_pay45 (k0_pay30 M a u v) (k0_pay34 M a u v) (Ideal.ofBits .f32 0x4F000000#32))
      (k0_pay46 (k0_pay30 M a u v) (k0_pay34 M a u v) (k0_pay35 M a u v) (Ideal.ofBits .f32 0x4F000000#32)) (Ideal.ofBits .f32 0x3F800000#32) V (ix2 r k) = codes w k := by
  have hm := lad_mid (k0_pay30 M a u v) _ _ (ix2 r 0) (lad_top M a u v (ix2 r 0))
  refine (pay49_apply _ _ _ _ V r k (by rw [h]; exact absMax_nonneg w (by norm_num)) (pay30_eq M a u v _) hm).trans ?_
  rw [h, hV, codes, invScale]

end

/-! ## The hidden block -/

section
variable (a : FVec Ideal S256x1 .f32)

theorem pay54_eq (j : S256x1.Idx) : k0_pay54 a j = a j * q448 := rfl

/-- The hidden block's scales, as the kernel writes them. -/
abbrev kscale' : FVec Ideal S256x1 .f32 :=
  k0_pay72 a (k0_pay54 a) (k0_pay65 (k0_pay54 a) (k0_pay55 a) (Ideal.ofBits .f32 0x00800000#32) k0_pay56)
    (k0_pay67 (k0_pay54 a) (k0_pay55 a) (Ideal.ofBits .f32 0x00800000#32) k0_pay56) (Ideal.ofBits .f32 0x41800000#32)

theorem cmp_vec (z s : FVec Ideal S256x1 .f32) (b : EReal) (j : S256x1.Idx) :
    cmpf .oge z (mulf s (broadcast S256x1 (b : Ideal .f32))) j = Ideal.cmp .oge (z j) (s j * b) := rfl

theorem pay67_eq (z : FVec Ideal S256x1 .f32) (d : IVec S256x1 1) (b : Ideal .f32) (e : FVec Ideal S256x1 .f32) (j : S256x1.Idx) :
    k0_pay67 z d b e j = Ideal.cmp .oge (z j) (k0_pay65 z d b e j * Ideal.ofBits .f32 0x41000000#32) := by
  unfold k0_pay67
  generalize k0_pay65 z d b e = s
  exact cmp_vec z s _ j

theorem kscale'_apply {n : ℕ} (hn : 0 < n) (w : Fin n → EReal) (j : S256x1.Idx) (h : a j = absMax w) : kscale' a j = scale w := by
  refine (pay72_apply _ _ _ _ _ j (pay67_eq _ _ _ _ j) (by rw [h]; exact absMax_nonneg w hn) (pay54_eq a j) (lad_start' a j)).trans ?_
  rw [h, scale]

/-- The hidden block's codes, as the kernel writes them. -/
theorem kcodes'_apply (w : Fin 6144 → EReal) (V : Vec Ideal S256x6144 .f32) (r : Fin 256) (h : a (ix2 r 0) = absMax w) (hV : ∀ k, V (ix2 r k) = w k) (k : Fin 6144) :
    k0_pay73 a (k0_pay54 a) (k0_pay65 (k0_pay54 a) (k0_pay55 a) (Ideal.ofBits .f32 0x00800000#32) k0_pay56)
      (k0_pay66 (k0_pay54 a) (k0_pay55 a) (Ideal.ofBits .f32 0x00800000#32) k0_pay56)
      (k0_pay67 (k0_pay54 a) (k0_pay55 a) (Ideal.ofBits .f32 0x00800000#32) k0_pay56) (Ideal.ofBits .f32 0x41800000#32) V (ix2 r k) = codes w k := by
  refine (pay73_apply _ _ _ _ _ V r k (pay67_eq _ _ _ _ _) (by rw [h]; exact absMax_nonneg w (by norm_num)) (pay54_eq a _) (lad_start' a _)).trans ?_
  rw [h, hV, codes, invScale]

end

/-! ## What the scratch holds of the input block -/

/-- A change of shape to the same shape. -/
theorem same_shape (w : FVec Ideal S256x256 .f32) (r c : Fin 256) : shapeCast S256x256 w shapeCasts_S256x256_S256x256 (ix2 r c) = w (ix2 r c) := by
  pointwise

section
variable (A : Vec Ideal S256x256 .bf16) (M : FVec Ideal S256x256 .bf16) (v : Vec Ideal S256x256 .f32) (r c : Fin 256)
theorem pay10_apply : k0_pay10 A v (ix2 r c) = mulRow A v r c := (same_shape _ r c).trans (pay9_apply A v r c)
theorem pay12_apply : k0_pay12 A v (ix2 r c) = mulRow A v r c := (same_shape _ r c).trans (pay11_apply A v r c)
theorem pay15_apply : k0_pay15 A v (ix2 r c) = mulRow A v r c := (same_shape _ r c).trans (pay14_apply A v r c)
theorem pay18_apply : k0_pay18 M v (ix2 r c) = mulRow M v r c := (same_shape _ r c).trans (pay17_apply M v r c)
theorem pay20_apply : k0_pay20 M v (ix2 r c) = mulRow M v r c := (same_shape _ r c).trans (pay19_apply M v r c)
theorem pay22_apply : k0_pay22 M v (ix2 r c) = mulRow M v r c := (same_shape _ r c).trans (pay21_apply M v r c)
theorem pay26_apply (v : FVec Ideal S256x256 .bf16) : k0_pay26 M v (ix2 r c) = mulRow M v r c := (same_shape _ r c).trans (pay25_apply M v r c)
theorem pay28_apply : k0_pay28 M v (ix2 r c) = mulRow M v r c := (same_shape _ r c).trans (pay27_apply M v r c)
end

/-- A rotated input row, on the scratch's columns. -/
def wide (w : Fin 2048 → EReal) (c : Fin 6144) : EReal := if h : c.val < 2048 then w ⟨c, h⟩ else 0

theorem wide_block (X : Vec Ideal S256x2048 .f32) (A : Vec Ideal S256x256 .bf16) (u : S256x256.Idx → EReal) (o : ℕ) (ho : o % 256 = 0) (hn : o + 256 ≤ 2048)
    (hu : ∀ (r j : Fin 256) (h : o + j.val < 2048), u (ix2 r j) = X (ix2 r ⟨o + j, h⟩)) (r c : Fin 256) (hc : o + c.val < 6144) :
    mulRow A u r c = wide (bx X A r) ⟨o + c, hc⟩ := by
  unfold wide
  rw [dif_pos (by show o + c.val < 2048; omega)]
  exact block_rot (by norm_num) A u (fun c => X (ix2 r c)) r o ho hn (fun j => hu r j (by omega)) c

end Cert.KernelIdeal.Value
-- ==== Proof.KerTrip.lean ====
/-
  The kernel's loop over the hidden columns as the run leaves it: its carried value ends at the largest magnitude of each rotated
  hidden row, and the scratch ends holding those rows.
-/
module

public import proofs.«01_k».proof.Proof.KerBlock
public import proofs.«01_k».proof.Proof.Gen.KernelIdeal.Loops

@[expose] public section

noncomputable section

namespace Cert.KernelIdeal.Value

open Cert.KernelIdeal Cert.KernelIdeal.Gen Cert.Mlp Idealize.ShloMosaic Idealize.ShloMosaic.TcCoe
open scoped BigOperators

theorem zero2 : (![0, 0] : Fin 2 → Nat) = fun _ => 0 := funext fun a => by fin_cases a <;> rfl

section
variable (c : Dev nD) (i : grid0.Coords) (arg1 : Memref sig .tc .vmem S256x2048 .f32) (harg1 : arg1.IsWhole) (arg2 : Memref sig .tc .vmem S256x256 .bf16) (harg2 : arg2.IsWhole) (arg3 : Memref sig .tc .vmem S2048x12288 .fp8e4m3) (harg3 : arg3.IsWhole) (arg4 : Memref sig .tc .vmem S1x12288 .f32) (harg4 : arg4.IsWhole) (arg5 : Memref sig .tc .vmem S6144x2048 .fp8e4m3) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .fp8e4m3) (harg8 : arg8.IsWhole) (arg9 : Memref sig .tc .vmem S256x1 .f32) (harg9 : arg9.IsWhole) (arg10 : Memref sig .tc .vmem S256x6144 .fp8e4m3) (harg10 : arg10.IsWhole) (arg11 : Memref sig .tc .vmem S256x1 .f32) (harg11 : arg11.IsWhole) (arg12 : Memref sig .tc .vmem S256x6144 .f32) (harg12 : arg12.IsWhole) (v1 : FVec Ideal S256x256 .bf16) (v90 : FVec Ideal S256x1 .f32) (v92 : FVec Ideal S256x1 .f32) (v151 : FVec Ideal S256x1 .f32) (v154 : FVec Ideal S256x1 .f32) (cst_66 : Ideal .f32) (X_arg3 : BufTy.Contents (Elt Ideal) arg3.view.ty) (X_arg4 : BufTy.Contents (Elt Ideal) arg4.view.ty) (X_arg8 : BufTy.Contents (Elt Ideal) arg8.view.ty)

/-- Each trip is as the specification of a trip says. -/
theorem trip_is (k : Fin k0_t1_loop.trips) :
    TripIs v1 (k0_pay48 v90 v92 v151 cst_66) (arg8.view.read (Elt Ideal) X_arg8) (arg3.view.read (Elt Ideal) X_arg3) (arg4.view.read (Elt Ideal) X_arg4) k
      (st_k0_t1 (F := Ideal) Variants.none c none i arg1 harg1 arg2 harg2 arg3 harg3 arg4 harg4 arg5 harg5 arg6 harg6 arg7 harg7 arg8 harg8 arg9 harg9 arg10 harg10 arg11 harg11 arg12 harg12 v1 v90 v92 v151 v154 cst_66 X_arg3 X_arg4 X_arg8 k0_pay50 k.val)
      (st_k0_t1 (F := Ideal) Variants.none c none i arg1 harg1 arg2 harg2 arg3 harg3 arg4 harg4 arg5 harg5 arg6 harg6 arg7 harg7 arg8 harg8 arg9 harg9 arg10 harg10 arg11 harg11 arg12 harg12 v1 v90 v92 v151 v154 cst_66 X_arg3 X_arg4 X_arg8 k0_pay50 (k.val + 1)) := by
  have hk : k.val < 12 := Nat.lt_of_lt_of_le k.isLt k0_t1_abs.2.1
  unfold TripIs
  iterate 7 apply Exists.intro
  refine ⟨?_, ?_, ?_, ?_, ?_, ?_⟩
  rotate_left 5
  · rw [st_k0_t1_succ]
    unfold tripR_k0_t1 tripL_k0_t1 trip_k0_t1
    exact rfl
  · intro r j
    refine (readAt2 arg8.view X_arg8 _ _ 0 0 rfl r j (by omega) (by omega)).trans ?_
    exact congrArg₂ (fun a b => arg8.view.read (Elt Ideal) X_arg8 (ix2 a b)) (Fin.ext (Nat.zero_add _)) (Fin.ext (Nat.zero_add _))
  · intro a f h
    refine (readAt2 arg3.view X_arg3 _ _ 0 (512 * k.val) (k0_off1_eq k) a f (by omega) (by omega)).trans ?_
    exact congrArg (fun a => arg3.view.read (Elt Ideal) X_arg3 (ix2 a _)) (Fin.ext (Nat.zero_add _))
  · intro a f h
    refine (readAt2 arg3.view X_arg3 _ _ 0 (512 * k.val + 6144) (k0_off2_eq k) a f (by omega) (by omega)).trans ?_
    exact congrArg (fun a => arg3.view.read (Elt Ideal) X_arg3 (ix2 a _)) (Fin.ext (Nat.zero_add _))
  · intro f h
    refine (readAt2 arg4.view X_arg4 _ _ 0 (512 * k.val) (k0_off3_eq k) 0 f (by omega) (by omega)).trans ?_
    exact congrArg (fun a => arg4.view.read (Elt Ideal) X_arg4 (ix2 a _)) (Fin.ext (Nat.zero_add _))
  · intro f h
    refine (readAt2 arg4.view X_arg4 _ _ 0 (512 * k.val + 6144) (k0_off4_eq k) 0 f (by omega) (by omega)).trans ?_
    exact congrArg (fun a => arg4.view.read (Elt Ideal) X_arg4 (ix2 a _)) (Fin.ext (Nat.zero_add _))

theorem trips_eq : k0_t1_loop.trips = 12 := by decide +kernel

/-- The state after the last trip. -/
abbrev endSt : FVec Ideal S256x1 .f32 × List (View.Piece (Elt Ideal) S256x6144 .f32) :=
  st_k0_t1 (F := Ideal) Variants.none c none i arg1 harg1 arg2 harg2 arg3 harg3 arg4 harg4 arg5 harg5 arg6 harg6 arg7 harg7 arg8 harg8 arg9 harg9 arg10 harg10 arg11 harg11 arg12 harg12 v1 v90 v92 v151 v154 cst_66 X_arg3 X_arg4 X_arg8 k0_pay50 k0_t1_loop.trips

/-- The loop's invariant after the last trip. -/
theorem end_inv :
    (∀ r : Fin 256, (endSt c i arg1 harg1 arg2 harg2 arg3 harg3 arg4 harg4 arg5 harg5 arg6 harg6 arg7 harg7 arg8 harg8 arg9 harg9 arg10 harg10 arg11 harg11 arg12 harg12 v1 v90 v92 v151 v154 cst_66 X_arg3 X_arg4 X_arg8).1 (ix2 r 0) =
      runMax (hidRot v1 (k0_pay48 v90 v92 v151 cst_66) (arg8.view.read (Elt Ideal) X_arg8) (arg3.view.read (Elt Ideal) X_arg3) (arg4.view.read (Elt Ideal) X_arg4) r) (512 * k0_t1_loop.trips)) ∧
    (∀ p ∈ (endSt c i arg1 harg1 arg2 harg2 arg3 harg3 arg4 harg4 arg5 harg5 arg6 harg6 arg7 harg7 arg8 harg8 arg9 harg9 arg10 harg10 arg11 harg11 arg12 harg12 v1 v90 v92 v151 v154 cst_66 X_arg3 X_arg4 X_arg8).2, ∀ x : p.1.shape.Idx, p.2 x =
      (fun y : S256x6144.Idx => hidRot v1 (k0_pay48 v90 v92 v151 cst_66) (arg8.view.read (Elt Ideal) X_arg8) (arg3.view.read (Elt Ideal) X_arg3) (arg4.view.read (Elt Ideal) X_arg4) (y 0) (y 1)) (p.1.emb x)) ∧
    (∀ (r : Fin 256) (k : Fin 6144), k.val < 512 * k0_t1_loop.trips →
      ∃ p ∈ (endSt c i arg1 harg1 arg2 harg2 arg3 harg3 arg4 harg4 arg5 harg5 arg6 harg6 arg7 harg7 arg8 harg8 arg9 harg9 arg10 harg10 arg11 harg11 arg12 harg12 v1 v90 v92 v151 v154 cst_66 X_arg3 X_arg4 X_arg8).2, (ix2 r k : S256x6144.Idx) ∈ p.1.set) :=
  trips_inv v1 (k0_pay48 v90 v92 v151 cst_66) (arg8.view.read (Elt Ideal) X_arg8) (arg3.view.read (Elt Ideal) X_arg3) (arg4.view.read (Elt Ideal) X_arg4)
    (st_k0_t1 (F := Ideal) Variants.none c none i arg1 harg1 arg2 harg2 arg3 harg3 arg4 harg4 arg5 harg5 arg6 harg6 arg7 harg7 arg8 harg8 arg9 harg9 arg10 harg10 arg11 harg11 arg12 harg12 v1 v90 v92 v151 v154 cst_66 X_arg3 X_arg4 X_arg8 k0_pay50) rfl
    (trip_is c i arg1 harg1 arg2 harg2 arg3 harg3 arg4 harg4 arg5 harg5 arg6 harg6 arg7 harg7 arg8 harg8 arg9 harg9 arg10 harg10 arg11 harg11 arg12 harg12 v1 v90 v92 v151 v154 cst_66 X_arg3 X_arg4 X_arg8)
    k0_t1_loop.trips (le_of_eq trips_eq) le_rfl

/-- The carried value at the end. -/
theorem end_max (r : Fin 256) :
    (endSt c i arg1 harg1 arg2 harg2 arg3 harg3 arg4 harg4 arg5 harg5 arg6 harg6 arg7 harg7 arg8 harg8 arg9 harg9 arg10 harg10 arg11 harg11 arg12 harg12 v1 v90 v92 v151 v154 cst_66 X_arg3 X_arg4 X_arg8).1 (ix2 r 0) =
      absMax (hidRot v1 (k0_pay48 v90 v92 v151 cst_66) (arg8.view.read (Elt Ideal) X_arg8) (arg3.view.read (Elt Ideal) X_arg3) (arg4.view.read (Elt Ideal) X_arg4) r) := by
  refine ((end_inv c i arg1 harg1 arg2 harg2 arg3 harg3 arg4 harg4 arg5 harg5 arg6 harg6 arg7 harg7 arg8 harg8 arg9 harg9 arg10 harg10 arg11 harg11 arg12 harg12 v1 v90 v92 v151 v154 cst_66 X_arg3 X_arg4 X_arg8).1 r).trans ?_
  rw [trips_eq]
  exact runMax_full _ (by norm_num)

/-- The scratch at the end, over anything. -/
theorem end_scratch (f : BufTy.Contents (Elt Ideal) arg12.view.ty) (r : Fin 256) (k : Fin 6144) :
    arg12.view.read (Elt Ideal) (arg12.view.writes (Elt Ideal) f (endSt c i arg1 harg1 arg2 harg2 arg3 harg3 arg4 harg4 arg5 harg5 arg6 harg6 arg7 harg7 arg8 harg8 arg9 harg9 arg10 harg10 arg11 harg11 arg12 harg12 v1 v90 v92 v151 v154 cst_66 X_arg3 X_arg4 X_arg8).2) (ix2 r k) =
      hidRot v1 (k0_pay48 v90 v92 v151 cst_66) (arg8.view.read (Elt Ideal) X_arg8) (arg3.view.read (Elt Ideal) X_arg3) (arg4.view.read (Elt Ideal) X_arg4) r k := by
  have h := end_inv c i arg1 harg1 arg2 harg2 arg3 harg3 arg4 harg4 arg5 harg5 arg6 harg6 arg7 harg7 arg8 harg8 arg9 harg9 arg10 harg10 arg11 harg11 arg12 harg12 v1 v90 v92 v151 v154 cst_66 X_arg3 X_arg4 X_arg8
  exact View.read_writes_apply_of_pieces arg12.view f (fun y : S256x6144.Idx => hidRot v1 (k0_pay48 v90 v92 v151 cst_66) (arg8.view.read (Elt Ideal) X_arg8) (arg3.view.read (Elt Ideal) X_arg3) (arg4.view.read (Elt Ideal) X_arg4) (y 0) (y 1)) _ h.2.1 (ix2 r k) (h.2.2 r k (by rw [trips_eq]; exact k.isLt))

end

end Cert.KernelIdeal.Value
-- ==== Proof.KerOut.lean ====
/-
  What one run of the kernel's body leaves in each result's buffer, computed: loads of the input blocks, the payloads stored, and the
  buffers read back are the specification's blocks.
-/
module

public import proofs.«01_k».proof.Proof.KerTrip

@[expose] public section

noncomputable section

namespace Cert.KernelIdeal.Value

open Cert.KernelIdeal Cert.KernelIdeal.Gen Cert.Mlp Idealize.ShloMosaic Idealize.ShloMosaic.TcCoe
open scoped BigOperators

/-! ## Whole stores and loads -/

/-- A buffer stored whole reads as what was stored. -/
theorem read_full {sp : Space} {S : Shape} {e : EltTy} (v : View sig .tc sp S e) (f : v.ty.Contents (Elt Ideal)) {off : Fin S.rank → Nat}
    (h : off = fun _ => 0) (inb : ∀ a, off a + S.size a ≤ S.size a) (w : S.Idx → Elt Ideal e) :
    v.read (Elt Ideal) (v.writes (Elt Ideal) f [⟨Rect.unit off S.size inb, w⟩]) = w := by
  funext y
  refine View.read_writes_apply_of_pieces v f w _ (fun p hp x => ?_) y ⟨_, List.mem_singleton_self _, View.mem_set_unit_zero h inb y⟩
  obtain rfl := List.mem_singleton.1 hp
  subst h
  exact congrArg w (Rect.emb_whole_apply _ _).symm

/-- A whole load reads the buffer. -/
theorem load_full {sp : Space} {S : Shape} {e : EltTy} (v : View sig .tc sp S e) (f : v.ty.Contents (Elt Ideal)) {off : Fin S.rank → Nat}
    (h : off = fun _ => 0) (inb : ∀ a, off a + S.size a ≤ S.size a) :
    v.readAt (Elt Ideal) (Rect.unit off S.size inb).toLoadRect f = v.read (Elt Ideal) f :=
  View.ld_unit_zero h inb (v.read (Elt Ideal) f)

/-- A buffer stored whole and loaded whole. -/
theorem readCov_full {sp : Space} {S : Shape} {e : EltTy} (v : View sig .tc sp S e) {off : Fin S.rank → Nat} (h : off = fun _ => 0)
    (inb : ∀ a, off a + S.size a ≤ S.size a) {w w' : S.Idx → Elt Ideal e} (hw : w = w') :
    v.readCov [(⟨Rect.unit off S.size inb, w⟩ : View.Piece (Elt Ideal) S e)] (Rect.unit off S.size inb).toLoadRect = w' :=
  (View.readCov_unit_zero v h inb w).trans hw

/-- A block of 256 columns loaded from a buffer that holds `X`. -/
theorem cols_load {sp : Space} {m : Memref sig .tc sp S256x2048 .f32} (hm : m.IsWhole) (X : Vec Ideal S256x2048 .f32) (o : ℕ) (inb) :
    IsCols X o (m.view.readAt (Elt Ideal) (Rect.unit (s := S256x2048) ![0, o] S256x256.size inb).toLoadRect (hm.unread X)) := by
  intro r j h
  refine (readAt2 m.view _ _ inb 0 o rfl r j (by omega) h).trans ?_
  rw [hm.read_unread]
  exact congrArg (fun a => X (ix2 a _)) (Fin.ext (Nat.zero_add _))

/-! ## The input block -/

section
variable (A : Vec Ideal S256x256 .bf16) (u0 u1 u2 u3 u4 u5 u6 u7 : Vec Ideal S256x256 .f32)
  (x0 : Vec Ideal S256x2048 .f32) (x1 : Vec Ideal S256x256 .bf16) (x2 : Vec Ideal S2048x12288 .fp8e4m3) (x3 : Vec Ideal S1x12288 .f32)
  (x4 : Vec Ideal S6144x2048 .fp8e4m3) (x5 : Vec Ideal S1x2048 .f32)

/-- The loads of the input block and of the matrix are those of `x0` and `x1`. -/
structure Loads : Prop where
  hA : A = x1
  h0 : IsCols x0 0 u0
  h1 : IsCols x0 256 u1
  h2 : IsCols x0 512 u2
  h3 : IsCols x0 768 u3
  h4 : IsCols x0 1024 u4
  h5 : IsCols x0 1280 u5
  h6 : IsCols x0 1536 u6
  h7 : IsCols x0 1792 u7

/-- The running maximum before the last two blocks. -/
abbrev k3 : FVec Ideal S256x1 .f32 := k0_pay23 (k0_pay8 A) (k0_pay13 A u0 u1) (k0_pay16 A u2) u3 u4 u5
/-- The largest magnitudes, and those over 448. -/
abbrev k5 : FVec Ideal S256x1 .f32 := k0_pay29 (k0_pay8 A) (k3 A u0 u1 u2 u3 u4 u5) (k0_pay24 u6) u7
abbrev k6 : FVec Ideal S256x1 .f32 := k0_pay30 (k0_pay8 A) (k3 A u0 u1 u2 u3 u4 u5) (k0_pay24 u6) u7
/-- The ladder's two columns near its end. -/
abbrev k9 : FVec Ideal S256x1 .f32 :=
  k0_pay45 (k6 A u0 u1 u2 u3 u4 u5 u6 u7) (k0_pay34 (k0_pay8 A) (k3 A u0 u1 u2 u3 u4 u5) (k0_pay24 u6) u7) (Ideal.ofBits .f32 0x4F000000#32)
abbrev k10 : FVec Ideal S256x1 .f32 :=
  k0_pay46 (k6 A u0 u1 u2 u3 u4 u5 u6 u7) (k0_pay34 (k0_pay8 A) (k3 A u0 u1 u2 u3 u4 u5) (k0_pay24 u6) u7)
    (k0_pay35 (k0_pay8 A) (k3 A u0 u1 u2 u3 u4 u5) (k0_pay24 u6) u7) (Ideal.ofBits .f32 0x4F000000#32)

variable {A u0 u1 u2 u3 u4 u5 u6 u7 x0 x1} (L : Loads A u0 u1 u2 u3 u4 u5 u6 u7 x0 x1)
include L

theorem k5_apply (r : Fin 256) : k5 A u0 u1 u2 u3 u4 u5 u6 u7 (ix2 r 0) = absMax (bx x0 x1 r) := by
  have h := kmax_apply A x0 u0 u1 u2 u3 u4 u5 u6 u7 L.h0 L.h1 L.h2 L.h3 L.h4 L.h5 L.h6 L.h7 r
  rw [L.hA] at h ⊢
  exact h

/-- The scales stored are the specification's. -/
theorem xs_eq : k0_pay48 (k5 A u0 u1 u2 u3 u4 u5 u6 u7) (k6 A u0 u1 u2 u3 u4 u5 u6 u7) (k9 A u0 u1 u2 u3 u4 u5 u6 u7) (Ideal.ofBits .f32 0x3F800000#32) = outXS x0 x1 := by
  funext y
  rw [← col_idx y]
  exact kscale_apply (k0_pay8 A) (k3 A u0 u1 u2 u3 u4 u5) (k0_pay24 u6) u7 (by norm_num) (bx x0 x1 (y 0)) (ix2 (y 0) 0) (k5_apply L (y 0))

/-- The codes stored are the specification's, when the scratch holds the rotated block. -/
theorem xc_eq (V : Vec Ideal S256x2048 .f32) (hV : ∀ (r : Fin 256) (k : Fin 2048), V (ix2 r k) = bx x0 x1 r k) :
    k0_pay49 (k5 A u0 u1 u2 u3 u4 u5 u6 u7) (k6 A u0 u1 u2 u3 u4 u5 u6 u7) (k9 A u0 u1 u2 u3 u4 u5 u6 u7) (k10 A u0 u1 u2 u3 u4 u5 u6 u7) (Ideal.ofBits .f32 0x3F800000#32) V
      = outXC x0 x1 := by
  funext y
  rw [eq_ix2 y]
  exact kcodes_apply (k0_pay8 A) (k3 A u0 u1 u2 u3 u4 u5) (k0_pay24 u6) u7 (bx x0 x1 (y 0)) V (y 0) (k5_apply L (y 0)) (hV (y 0)) (y 1)

omit L in
/-- The eight stores of the rotated input block. -/
abbrev xPieces (A : Vec Ideal S256x256 .bf16) (u0 u1 u2 u3 u4 u5 u6 u7 : Vec Ideal S256x256 .f32) : List (View.Piece (Elt Ideal) S256x6144 .f32) :=
  [⟨Rect.unit ![0, 1792] S256x256.size inb_S256x6144_S256x256_0_1792, k0_pay28 (k0_pay8 A) u7⟩,
   ⟨Rect.unit ![0, 1536] S256x256.size inb_S256x6144_S256x256_0_1536, k0_pay26 (k0_pay8 A) (k0_pay24 u6)⟩,
   ⟨Rect.unit ![0, 1280] S256x256.size inb_S256x6144_S256x256_0_1280, k0_pay22 (k0_pay8 A) u5⟩,
   ⟨Rect.unit ![0, 1024] S256x256.size inb_S256x6144_S256x256_0_1024, k0_pay20 (k0_pay8 A) u4⟩,
   ⟨Rect.unit ![0, 768] S256x256.size inb_S256x6144_S256x256_0_768, k0_pay18 (k0_pay8 A) u3⟩,
   ⟨Rect.unit ![0, 512] S256x256.size inb_S256x6144_S256x256_0_512, k0_pay15 A u2⟩,
   ⟨Rect.unit ![0, 256] S256x256.size inb_S256x6144_S256x256_0_256, k0_pay12 A u1⟩,
   ⟨Rect.unit ![0, 0] S256x256.size inb_S256x6144_S256x256_0_0, k0_pay10 A u0⟩]

theorem xPieces_ok : ∀ p ∈ xPieces A u0 u1 u2 u3 u4 u5 u6 u7, ∀ x : p.1.shape.Idx,
    p.2 x = (fun y : S256x6144.Idx => wide (bx x0 x1 (y 0)) (y 1)) (p.1.emb x) := by
  obtain ⟨rfl, h0, h1, h2, h3, h4, h5, h6, h7⟩ := L
  have h6' : ∀ (r j : Fin 256) (h : 1536 + j.val < 2048), k0_pay24 u6 (ix2 r j) = x0 (ix2 r ⟨1536 + j, h⟩) := fun r j h => (pay24_apply u6 r j).trans (h6 r j h)
  have w8 : ∀ (u : S256x256.Idx → EReal) (o : ℕ) (ho : o % 256 = 0) (hn : o + 256 ≤ 2048)
      (hu : ∀ (r j : Fin 256) (h : o + j.val < 2048), u (ix2 r j) = x0 (ix2 r ⟨o + j, h⟩)) (r c : Fin 256) (hc : o + c.val < 6144),
      mulRow (k0_pay8 A) u r c = wide (bx x0 A r) ⟨o + c, hc⟩ := fun u o ho hn hu r c hc => by
    rw [pay8_eq]; exact wide_block x0 A u o ho hn hu r c hc
  have key : ∀ (o : ℕ) (inb) (w : Vec Ideal S256x256 .f32) (hw : ∀ (r c : Fin 256) (hc : o + c.val < 6144), w (ix2 r c) = wide (bx x0 A r) ⟨o + c, hc⟩) (x : S256x256.Idx),
      w x = (fun y : S256x6144.Idx => wide (bx x0 A (y 0)) (y 1)) ((Rect.unit (s := S256x6144) ![0, o] S256x256.size inb).emb x) :=
    fun o inb w hw x => piece_ok (m := 256) (n := 6144) (q := 256) (fun r => wide (bx x0 A r)) ![0, o] inb o rfl w hw x
  intro p hp
  rcases List.mem_cons.1 hp with rfl | hp
  · exact key 1792 inb_S256x6144_S256x256_0_1792 (k0_pay28 (k0_pay8 A) u7) fun r c hc => (pay28_apply (k0_pay8 A) u7 r c).trans (w8 u7 1792 (by norm_num) (by norm_num) h7 r c hc)
  rcases List.mem_cons.1 hp with rfl | hp
  · exact key 1536 inb_S256x6144_S256x256_0_1536 (k0_pay26 (k0_pay8 A) (k0_pay24 u6)) fun r c hc => (pay26_apply (k0_pay8 A) r c (k0_pay24 u6)).trans (w8 (k0_pay24 u6) 1536 (by norm_num) (by norm_num) h6' r c hc)
  rcases List.mem_cons.1 hp with rfl | hp
  · exact key 1280 inb_S256x6144_S256x256_0_1280 (k0_pay22 (k0_pay8 A) u5) fun r c hc => (pay22_apply (k0_pay8 A) u5 r c).trans (w8 u5 1280 (by norm_num) (by norm_num) h5 r c hc)
  rcases List.mem_cons.1 hp with rfl | hp
  · exact key 1024 inb_S256x6144_S256x256_0_1024 (k0_pay20 (k0_pay8 A) u4) fun r c hc => (pay20_apply (k0_pay8 A) u4 r c).trans (w8 u4 1024 (by norm_num) (by norm_num) h4 r c hc)
  rcases List.mem_cons.1 hp with rfl | hp
  · exact key 768 inb_S256x6144_S256x256_0_768 (k0_pay18 (k0_pay8 A) u3) fun r c hc => (pay18_apply (k0_pay8 A) u3 r c).trans (w8 u3 768 (by norm_num) (by norm_num) h3 r c hc)
  rcases List.mem_cons.1 hp with rfl | hp
  · exact key 512 inb_S256x6144_S256x256_0_512 (k0_pay15 A u2) fun r c hc => (pay15_apply A u2 r c).trans (wide_block x0 A u2 512 (by norm_num) (by norm_num) h2 r c hc)
  rcases List.mem_cons.1 hp with rfl | hp
  · exact key 256 inb_S256x6144_S256x256_0_256 (k0_pay12 A u1) fun r c hc => (pay12_apply A u1 r c).trans (wide_block x0 A u1 256 (by norm_num) (by norm_num) h1 r c hc)
  obtain rfl := List.mem_singleton.1 hp
  exact key 0 inb_S256x6144_S256x256_0_0 (k0_pay10 A u0) fun r c hc => (pay10_apply A u0 r c).trans (wide_block x0 A u0 0 (by norm_num) (by norm_num) h0 r c hc)

omit L in
theorem xPieces_cover (r : Fin 256) (c : Fin 6144) (hc : c.val < 2048) :
    ∃ p ∈ xPieces A u0 u1 u2 u3 u4 u5 u6 u7, (ix2 r c : S256x6144.Idx) ∈ p.1.set := by
  have hr := r.isLt
  have key : ∀ (n : ℕ) (inb) (w) (h : (⟨Rect.unit (s := S256x6144) ![0, n] S256x256.size inb, w⟩ : View.Piece (Elt Ideal) S256x6144 .f32) ∈ xPieces A u0 u1 u2 u3 u4 u5 u6 u7),
      n ≤ c.val → c.val < n + 256 → ∃ p ∈ xPieces A u0 u1 u2 u3 u4 u5 u6 u7, (ix2 r c : S256x6144.Idx) ∈ p.1.set :=
    fun n inb w h a b => ⟨_, h, mem2 _ inb 0 n rfl r c ⟨by omega, by omega⟩ ⟨a, b⟩⟩
  rcases (by omega : c.val < 256 ∨ (256 ≤ c.val ∧ c.val < 512) ∨ (512 ≤ c.val ∧ c.val < 768) ∨ (768 ≤ c.val ∧ c.val < 1024) ∨ (1024 ≤ c.val ∧ c.val < 1280)
    ∨ (1280 ≤ c.val ∧ c.val < 1536) ∨ (1536 ≤ c.val ∧ c.val < 1792) ∨ (1792 ≤ c.val ∧ c.val < 2048)) with h | h | h | h | h | h | h | h
  · exact key 0 inb_S256x6144_S256x256_0_0 (k0_pay10 A u0) (by simp [xPieces]) (by omega) (by omega)
  · exact key 256 inb_S256x6144_S256x256_0_256 (k0_pay12 A u1) (by simp [xPieces]) (by omega) (by omega)
  · exact key 512 inb_S256x6144_S256x256_0_512 (k0_pay15 A u2) (by simp [xPieces]) (by omega) (by omega)
  · exact key 768 inb_S256x6144_S256x256_0_768 (k0_pay18 (k0_pay8 A) u3) (by simp [xPieces]) (by omega) (by omega)
  · exact key 1024 inb_S256x6144_S256x256_0_1024 (k0_pay20 (k0_pay8 A) u4) (by simp [xPieces]) (by omega) (by omega)
  · exact key 1280 inb_S256x6144_S256x256_0_1280 (k0_pay22 (k0_pay8 A) u5) (by simp [xPieces]) (by omega) (by omega)
  · exact key 1536 inb_S256x6144_S256x256_0_1536 (k0_pay26 (k0_pay8 A) (k0_pay24 u6)) (by simp [xPieces]) (by omega) (by omega)
  · exact key 1792 inb_S256x6144_S256x256_0_1792 (k0_pay28 (k0_pay8 A) u7) (by simp [xPieces]) (by omega) (by omega)

/-- The scratch read back holds the rotated input block. -/
theorem x_scratch {sp : Space} (v : View sig .tc sp S256x6144 .f32) (inb) (r : Fin 256) (k : Fin 2048) :
    v.readCov (xPieces A u0 u1 u2 u3 u4 u5 u6 u7) (Rect.unit (s := S256x6144) ![0, 0] S256x2048.size inb).toLoadRect (ix2 r k) = bx x0 x1 r k := by
  have e : (Rect.unit (s := S256x6144) ![0, 0] S256x2048.size inb).emb (ix2 r k) = ix2 r ⟨k.val, by omega⟩ :=
    (emb2 _ inb 0 0 rfl r k (by omega) (by omega)).trans
      (congrArg₂ ix2 (Fin.ext (Nat.zero_add _)) (Fin.ext (Nat.zero_add _)))
  rw [View.readCov_eq_canon']
  show View.canon _ ((Rect.unit (s := S256x6144) ![0, 0] S256x2048.size inb).emb (ix2 r k)) = _
  rw [e, View.canon_apply_of_pieces (fun y : S256x6144.Idx => wide (bx x0 x1 (y 0)) (y 1)) _ (xPieces_ok L) _ (xPieces_cover r ⟨k.val, by omega⟩ k.isLt)]
  show wide (bx x0 x1 r) ⟨k.val, _⟩ = _
  unfold wide
  rw [dif_pos k.isLt]

end

/-- The kernel's loads of whole buffers at `x0` and `x1`. -/
theorem loads_of {arg1 : Memref sig .tc .vmem S256x2048 .f32} (h1 : arg1.IsWhole) {arg2 : Memref sig .tc .vmem S256x256 .bf16} (h2 : arg2.IsWhole)
    (x0 : Vec Ideal S256x2048 .f32) (x1 : Vec Ideal S256x256 .bf16) : Loads
    (arg2.view.readAt (Elt Ideal) (Rect.unit (s := S256x256) ![0, 0] S256x256.size inb_S256x256_S256x256_0_0).toLoadRect (h2.unread x1))
    (arg1.view.readAt (Elt Ideal) (Rect.unit (s := S256x2048) ![0, 0] S256x256.size inb_S256x2048_S256x256_0_0).toLoadRect (h1.unread x0))
    (arg1.view.readAt (Elt Ideal) (Rect.unit (s := S256x2048) ![0, 256] S256x256.size inb_S256x2048_S256x256_0_256).toLoadRect (h1.unread x0))
    (arg1.view.readAt (Elt Ideal) (Rect.unit (s := S256x2048) ![0, 512] S256x256.size inb_S256x2048_S256x256_0_512).toLoadRect (h1.unread x0))
    (arg1.view.readAt (Elt Ideal) (Rect.unit (s := S256x2048) ![0, 768] S256x256.size inb_S256x2048_S256x256_0_768).toLoadRect (h1.unread x0))
    (arg1.view.readAt (Elt Ideal) (Rect.unit (s := S256x2048) ![0, 1024] S256x256.size inb_S256x2048_S256x256_0_1024).toLoadRect (h1.unread x0))
    (arg1.view.readAt (Elt Ideal) (Rect.unit (s := S256x2048) ![0, 1280] S256x256.size inb_S256x2048_S256x256_0_1280).toLoadRect (h1.unread x0))
    (arg1.view.readAt (Elt Ideal) (Rect.unit (s := S256x2048) ![0, 1536] S256x256.size inb_S256x2048_S256x256_0_1536).toLoadRect (h1.unread x0))
    (arg1.view.readAt (Elt Ideal) (Rect.unit (s := S256x2048) ![0, 1792] S256x256.size inb_S256x2048_S256x256_0_1792).toLoadRect (h1.unread x0)) x0 x1 :=
  ⟨(load_full _ _ zero2 _).trans (h2.read_unread x1), cols_load h1 x0 0 _, cols_load h1 x0 256 _, cols_load h1 x0 512 _, cols_load h1 x0 768 _,
    cols_load h1 x0 1024 _, cols_load h1 x0 1280 _, cols_load h1 x0 1536 _, cols_load h1 x0 1792 _⟩

/-! ## The hidden block -/

section
variable (c : Dev nD)
  (i : grid0.Coords)
  (arg1 : Memref sig .tc .vmem S256x2048 .f32)
  (harg1 : arg1.IsWhole)
  (arg2 : Memref sig .tc .vmem S256x256 .bf16)
  (harg2 : arg2.IsWhole)
  (arg3 : Memref sig .tc .vmem S2048x12288 .fp8e4m3)
  (harg3 : arg3.IsWhole)
  (arg4 : Memref sig .tc .vmem S1x12288 .f32)
  (harg4 : arg4.IsWhole)
  (arg5 : Memref sig .tc .vmem S6144x2048 .fp8e4m3)
  (harg5 : arg5.IsWhole)
  (arg6 : Memref sig .tc .vmem S1x2048 .f32)
  (harg6 : arg6.IsWhole)
  (arg7 : Memref sig .tc .vmem S256x2048 .f32)
  (harg7 : arg7.IsWhole)
  (arg8 : Memref sig .tc .vmem S256x2048 .fp8e4m3)
  (harg8 : arg8.IsWhole)
  (arg9 : Memref sig .tc .vmem S256x1 .f32)
  (harg9 : arg9.IsWhole)
  (arg10 : Memref sig .tc .vmem S256x6144 .fp8e4m3)
  (harg10 : arg10.IsWhole)
  (arg11 : Memref sig .tc .vmem S256x1 .f32)
  (harg11 : arg11.IsWhole)
  (arg12 : Memref sig .tc .vmem S256x6144 .f32)
  (harg12 : arg12.IsWhole)
  {A : Vec Ideal S256x256 .bf16} {u0 u1 u2 u3 u4 u5 u6 u7 : Vec Ideal S256x256 .f32}
  {x0 : Vec Ideal S256x2048 .f32} {x1 : Vec Ideal S256x256 .bf16} {x2 : Vec Ideal S2048x12288 .fp8e4m3} {x3 : Vec Ideal S1x12288 .f32}
  (L : Loads A u0 u1 u2 u3 u4 u5 u6 u7 x0 x1) (v154 : FVec Ideal S256x1 .f32)
  (X3 : BufTy.Contents (Elt Ideal) arg3.view.ty) (X4 : BufTy.Contents (Elt Ideal) arg4.view.ty) (X8 : BufTy.Contents (Elt Ideal) arg8.view.ty)
  (e3 : arg3.view.read (Elt Ideal) X3 = x2) (e4 : arg4.view.read (Elt Ideal) X4 = x3) (e8 : arg8.view.read (Elt Ideal) X8 = outXC x0 x1)

/-- The state of the loop at its end, from the input block's loads. -/
abbrev endOf (A : Vec Ideal S256x256 .bf16) (u0 u1 u2 u3 u4 u5 u6 u7 : Vec Ideal S256x256 .f32) : FVec Ideal S256x1 .f32 × List (View.Piece (Elt Ideal) S256x6144 .f32) :=
  endSt c i arg1 harg1 arg2 harg2 arg3 harg3 arg4 harg4 arg5 harg5 arg6 harg6 arg7 harg7 arg8 harg8 arg9 harg9 arg10 harg10 arg11 harg11 arg12 harg12 (k0_pay8 A) (k5 A u0 u1 u2 u3 u4 u5 u6 u7) (k6 A u0 u1 u2 u3 u4 u5 u6 u7) (k9 A u0 u1 u2 u3 u4 u5 u6 u7) v154 (Ideal.ofBits .f32 0x3F800000#32) X3 X4 X8

include L e3 e4 e8 in
theorem hidRot_eq (r : Fin 256) :
    hidRot (k0_pay8 A) (k0_pay48 (k5 A u0 u1 u2 u3 u4 u5 u6 u7) (k6 A u0 u1 u2 u3 u4 u5 u6 u7) (k9 A u0 u1 u2 u3 u4 u5 u6 u7) (Ideal.ofBits .f32 0x3F800000#32))
      (arg8.view.read (Elt Ideal) X8) (arg3.view.read (Elt Ideal) X3) (arg4.view.read (Elt Ideal) X4) r = bh x0 x1 x2 x3 r := by
  rw [xs_eq L, e3, e4, e8, pay8_eq, L.hA]
  rfl

include L e3 e4 e8 in
theorem endOf_max (r : Fin 256) : (endOf c i arg1 harg1 arg2 harg2 arg3 harg3 arg4 harg4 arg5 harg5 arg6 harg6 arg7 harg7 arg8 harg8 arg9 harg9 arg10 harg10 arg11 harg11 arg12 harg12 v154 X3 X4 X8 A u0 u1 u2 u3 u4 u5 u6 u7).1 (ix2 r 0) = absMax (bh x0 x1 x2 x3 r) :=
  (end_max c i arg1 harg1 arg2 harg2 arg3 harg3 arg4 harg4 arg5 harg5 arg6 harg6 arg7 harg7 arg8 harg8 arg9 harg9 arg10 harg10 arg11 harg11 arg12 harg12 (k0_pay8 A) (k5 A u0 u1 u2 u3 u4 u5 u6 u7) (k6 A u0 u1 u2 u3 u4 u5 u6 u7) (k9 A u0 u1 u2 u3 u4 u5 u6 u7) v154 (Ideal.ofBits .f32 0x3F800000#32) X3 X4 X8 r).trans (congrArg absMax (hidRot_eq arg3 arg4 arg8 L X3 X4 X8 e3 e4 e8 r))

include L e3 e4 e8 in
theorem endOf_scratch (f : BufTy.Contents (Elt Ideal) arg12.view.ty) (P : List (View.Piece (Elt Ideal) S256x6144 .f32)) (inb) (r : Fin 256) (k : Fin 6144) :
    arg12.view.readAt (Elt Ideal) (Rect.unit (s := S256x6144) ![0, 0] S256x6144.size inb).toLoadRect
      (arg12.view.writes (Elt Ideal) f ((endOf c i arg1 harg1 arg2 harg2 arg3 harg3 arg4 harg4 arg5 harg5 arg6 harg6 arg7 harg7 arg8 harg8 arg9 harg9 arg10 harg10 arg11 harg11 arg12 harg12 v154 X3 X4 X8 A u0 u1 u2 u3 u4 u5 u6 u7).2 ++ P)) (ix2 r k) = bh x0 x1 x2 x3 r k := by
  rw [load_full _ _ zero2, View.writes_append]
  exact (end_scratch c i arg1 harg1 arg2 harg2 arg3 harg3 arg4 harg4 arg5 harg5 arg6 harg6 arg7 harg7 arg8 harg8 arg9 harg9 arg10 harg10 arg11 harg11 arg12 harg12 (k0_pay8 A) (k5 A u0 u1 u2 u3 u4 u5 u6 u7) (k6 A u0 u1 u2 u3 u4 u5 u6 u7) (k9 A u0 u1 u2 u3 u4 u5 u6 u7) v154 (Ideal.ofBits .f32 0x3F800000#32) X3 X4 X8 _ r k).trans (congrFun (hidRot_eq arg3 arg4 arg8 L X3 X4 X8 e3 e4 e8 r) k)

include L e3 e4 e8 in
/-- The hidden scales stored are the specification's. -/
theorem hs_eq : kscale' (endOf c i arg1 harg1 arg2 harg2 arg3 harg3 arg4 harg4 arg5 harg5 arg6 harg6 arg7 harg7 arg8 harg8 arg9 harg9 arg10 harg10 arg11 harg11 arg12 harg12 v154 X3 X4 X8 A u0 u1 u2 u3 u4 u5 u6 u7).1 = outHS x0 x1 x2 x3 := by
  funext y
  rw [← col_idx y]
  exact kscale'_apply _ (by norm_num) (bh x0 x1 x2 x3 (y 0)) (ix2 (y 0) 0) (endOf_max c i arg1 harg1 arg2 harg2 arg3 harg3 arg4 harg4 arg5 harg5 arg6 harg6 arg7 harg7 arg8 harg8 arg9 harg9 arg10 harg10 arg11 harg11 arg12 harg12 L v154 X3 X4 X8 e3 e4 e8 (y 0))

include L e3 e4 e8 in
/-- The hidden codes stored are the specification's: the scratch read back holds the rotated hidden block. -/
theorem hc_eq (f : BufTy.Contents (Elt Ideal) arg12.view.ty) (P : List (View.Piece (Elt Ideal) S256x6144 .f32)) (inb) :
    k0_pay73 (endOf c i arg1 harg1 arg2 harg2 arg3 harg3 arg4 harg4 arg5 harg5 arg6 harg6 arg7 harg7 arg8 harg8 arg9 harg9 arg10 harg10 arg11 harg11 arg12 harg12 v154 X3 X4 X8 A u0 u1 u2 u3 u4 u5 u6 u7).1
      (k0_pay54 (endOf c i arg1 harg1 arg2 harg2 arg3 harg3 arg4 harg4 arg5 harg5 arg6 harg6 arg7 harg7 arg8 harg8 arg9 harg9 arg10 harg10 arg11 harg11 arg12 harg12 v154 X3 X4 X8 A u0 u1 u2 u3 u4 u5 u6 u7).1)
      (k0_pay65 (k0_pay54 (endOf c i arg1 harg1 arg2 harg2 arg3 harg3 arg4 harg4 arg5 harg5 arg6 harg6 arg7 harg7 arg8 harg8 arg9 harg9 arg10 harg10 arg11 harg11 arg12 harg12 v154 X3 X4 X8 A u0 u1 u2 u3 u4 u5 u6 u7).1)
        (k0_pay55 (endOf c i arg1 harg1 arg2 harg2 arg3 harg3 arg4 harg4 arg5 harg5 arg6 harg6 arg7 harg7 arg8 harg8 arg9 harg9 arg10 harg10 arg11 harg11 arg12 harg12 v154 X3 X4 X8 A u0 u1 u2 u3 u4 u5 u6 u7).1) (Ideal.ofBits .f32 0x00800000#32) k0_pay56)
      (k0_pay66 (k0_pay54 (endOf c i arg1 harg1 arg2 harg2 arg3 harg3 arg4 harg4 arg5 harg5 arg6 harg6 arg7 harg7 arg8 harg8 arg9 harg9 arg10 harg10 arg11 harg11 arg12 harg12 v154 X3 X4 X8 A u0 u1 u2 u3 u4 u5 u6 u7).1)
        (k0_pay55 (endOf c i arg1 harg1 arg2 harg2 arg3 harg3 arg4 harg4 arg5 harg5 arg6 harg6 arg7 harg7 arg8 harg8 arg9 harg9 arg10 harg10 arg11 harg11 arg12 harg12 v154 X3 X4 X8 A u0 u1 u2 u3 u4 u5 u6 u7).1) (Ideal.ofBits .f32 0x00800000#32) k0_pay56)
      (k0_pay67 (k0_pay54 (endOf c i arg1 harg1 arg2 harg2 arg3 harg3 arg4 harg4 arg5 harg5 arg6 harg6 arg7 harg7 arg8 harg8 arg9 harg9 arg10 harg10 arg11 harg11 arg12 harg12 v154 X3 X4 X8 A u0 u1 u2 u3 u4 u5 u6 u7).1)
        (k0_pay55 (endOf c i arg1 harg1 arg2 harg2 arg3 harg3 arg4 harg4 arg5 harg5 arg6 harg6 arg7 harg7 arg8 harg8 arg9 harg9 arg10 harg10 arg11 harg11 arg12 harg12 v154 X3 X4 X8 A u0 u1 u2 u3 u4 u5 u6 u7).1) (Ideal.ofBits .f32 0x00800000#32) k0_pay56)
      (Ideal.ofBits .f32 0x41800000#32)
      (arg12.view.readAt (Elt Ideal) (Rect.unit (s := S256x6144) ![0, 0] S256x6144.size inb).toLoadRect
        (arg12.view.writes (Elt Ideal) f ((endOf c i arg1 harg1 arg2 harg2 arg3 harg3 arg4 harg4 arg5 harg5 arg6 harg6 arg7 harg7 arg8 harg8 arg9 harg9 arg10 harg10 arg11 harg11 arg12 harg12 v154 X3 X4 X8 A u0 u1 u2 u3 u4 u5 u6 u7).2 ++ P)))
      = outHC x0 x1 x2 x3 := by
  funext y
  rw [eq_ix2 y]
  exact kcodes'_apply _ (bh x0 x1 x2 x3 (y 0)) _ (y 0) (endOf_max c i arg1 harg1 arg2 harg2 arg3 harg3 arg4 harg4 arg5 harg5 arg6 harg6 arg7 harg7 arg8 harg8 arg9 harg9 arg10 harg10 arg11 harg11 arg12 harg12 L v154 X3 X4 X8 e3 e4 e8 (y 0))
    (endOf_scratch c i arg1 harg1 arg2 harg2 arg3 harg3 arg4 harg4 arg5 harg5 arg6 harg6 arg7 harg7 arg8 harg8 arg9 harg9 arg10 harg10 arg11 harg11 arg12 harg12 L v154 X3 X4 X8 e3 e4 e8 f P inb (y 0)) (y 1)

end

/-! ## The output block -/

section
variable {sp sp' sp'' : Space} (x0 : Vec Ideal S256x2048 .f32) (x1 : Vec Ideal S256x256 .bf16) (x2 : Vec Ideal S2048x12288 .fp8e4m3) (x3 : Vec Ideal S1x12288 .f32)
  (x4 : Vec Ideal S6144x2048 .fp8e4m3) (x5 : Vec Ideal S1x2048 .f32)

/-- One block of 512 columns of the output block. -/
theorem y_piece {m5 : Memref sig .tc sp S6144x2048 .fp8e4m3} (h5 : m5.IsWhole) {m6 : Memref sig .tc sp' S1x2048 .f32} (h6 : m6.IsWhole)
    (s : FVec Ideal S256x1 .f32) (h : Vec Ideal S256x6144 .fp8e4m3) (hs : s = outHS x0 x1 x2 x3) (hh : h = outHC x0 x1 x2 x3) (o : ℕ) (inb5) (inb6)
    (w : Vec Ideal S6144x512 .fp8e4m3) (ws : Vec Ideal S1x512 .f32)
    (hw : w = m5.view.readAt (Elt Ideal) (Rect.unit (s := S6144x2048) ![0, o] S6144x512.size inb5).toLoadRect (h5.unread x4))
    (hws : ws = m6.view.readAt (Elt Ideal) (Rect.unit (s := S1x2048) ![0, o] S1x512.size inb6).toLoadRect (h6.unread x5))
    (r : Fin 256) (c : Fin 512) (hc : o + c.val < 2048) :
    (∑ k : Fin 6144, h (ix2 r k) * w (ix2 k c)) * s (ix2 r 0) * ws (ix2 0 c) = outY x0 x1 x2 x3 x4 x5 (ix2 r ⟨o + c, hc⟩) := by
  have e5 : ∀ k : Fin 6144, w (ix2 k c) = x4 (ix2 k ⟨o + c, hc⟩) := fun k => by
    rw [hw]
    refine (readAt2 m5.view _ _ inb5 0 o rfl k c (by omega) hc).trans ?_
    rw [h5.read_unread]
    exact congrArg (fun a => x4 (ix2 a _)) (Fin.ext (Nat.zero_add _))
  have e6 : ws (ix2 0 c) = x5 (ix2 0 ⟨o + c, hc⟩) := by
    rw [hws]
    refine (readAt2 m6.view _ _ inb6 0 o rfl 0 c (by norm_num) hc).trans ?_
    rw [h6.read_unread]
    exact congrArg (fun a => x5 (ix2 a _)) (Fin.ext (Nat.zero_add _))
  rw [hs, hh, e6]
  simp only [e5]
  rfl

/-- Four blocks of 512 columns make the output block. -/
theorem y_read {v : View sig .tc sp'' S256x2048 .f32} (f : v.ty.Contents (Elt Ideal)) (G : Vec Ideal S256x2048 .f32) (w0 w1 w2 w3 : Vec Ideal S256x512 .f32)
    (inb0 : _) (inb1 : _) (inb2 : _) (inb3 : _)
    (h0 : ∀ (r : Fin 256) (c : Fin 512) (hc : 0 + c.val < 2048), w0 (ix2 r c) = G (ix2 r ⟨0 + c, hc⟩))
    (h1 : ∀ (r : Fin 256) (c : Fin 512) (hc : 512 + c.val < 2048), w1 (ix2 r c) = G (ix2 r ⟨512 + c, hc⟩))
    (h2 : ∀ (r : Fin 256) (c : Fin 512) (hc : 1024 + c.val < 2048), w2 (ix2 r c) = G (ix2 r ⟨1024 + c, hc⟩))
    (h3 : ∀ (r : Fin 256) (c : Fin 512) (hc : 1536 + c.val < 2048), w3 (ix2 r c) = G (ix2 r ⟨1536 + c, hc⟩)) :
    v.read (Elt Ideal) (v.writes (Elt Ideal) f
      [⟨Rect.unit (s := S256x2048) ![0, 1536] S256x512.size inb3, w3⟩, ⟨Rect.unit (s := S256x2048) ![0, 1024] S256x512.size inb2, w2⟩,
        ⟨Rect.unit (s := S256x2048) ![0, 512] S256x512.size inb1, w1⟩, ⟨Rect.unit (s := S256x2048) ![0, 0] S256x512.size inb0, w0⟩]) = G := by
  funext y
  have e : ∀ z : S256x2048.Idx, (fun y : S256x2048.Idx => (fun (a : Fin 256) (b : Fin 2048) => G (ix2 a b)) (y 0) (y 1)) z = G z := fun z => (congrArg G (eq_ix2 z)).symm
  refine (View.read_writes_apply_of_pieces v f (fun y : S256x2048.Idx => (fun (a : Fin 256) (b : Fin 2048) => G (ix2 a b)) (y 0) (y 1)) _ (fun p hp => ?_) y ?_).trans (e y)
  · simp only [List.mem_cons, List.not_mem_nil, or_false] at hp
    rcases hp with rfl | rfl | rfl | rfl
    · exact piece_ok (fun a b => G (ix2 a b)) _ inb3 1536 rfl _ h3
    · exact piece_ok (fun a b => G (ix2 a b)) _ inb2 1024 rfl _ h2
    · exact piece_ok (fun a b => G (ix2 a b)) _ inb1 512 rfl _ h1
    · exact piece_ok (fun a b => G (ix2 a b)) _ inb0 0 rfl _ h0
  · have hr : (y 0).val < 256 := (y 0).isLt
    have hc : (y 1).val < 2048 := (y 1).isLt
    rw [eq_ix2 y]
    rcases (by omega : (y 1).val < 512 ∨ (512 ≤ (y 1).val ∧ (y 1).val < 1024) ∨ (1024 ≤ (y 1).val ∧ (y 1).val < 1536) ∨ 1536 ≤ (y 1).val) with h | h | h | h
    · exact ⟨_, List.mem_cons_of_mem _ (List.mem_cons_of_mem _ (List.mem_cons_of_mem _ List.mem_cons_self)), mem2 _ inb0 0 0 rfl (y 0) (y 1) ⟨by omega, by omega⟩ ⟨by omega, by omega⟩⟩
    · exact ⟨_, List.mem_cons_of_mem _ (List.mem_cons_of_mem _ List.mem_cons_self), mem2 _ inb1 0 512 rfl (y 0) (y 1) ⟨by omega, by omega⟩ ⟨by omega, by omega⟩⟩
    · exact ⟨_, List.mem_cons_of_mem _ List.mem_cons_self, mem2 _ inb2 0 1024 rfl (y 0) (y 1) ⟨by omega, by omega⟩ ⟨by omega, by omega⟩⟩
    · exact ⟨_, List.mem_cons_self, mem2 _ inb3 0 1536 rfl (y 0) (y 1) ⟨by omega, by omega⟩ ⟨by omega, by omega⟩⟩

end

end Cert.KernelIdeal.Value
-- ==== Proof.KerRun.lean ====
/-
  One run of the kernel's body at a grid point: on any contents of the input blocks it leaves the specification's five blocks in the
  results' buffers.
-/
module

public import proofs.«01_k».proof.Proof.KerOut
public import proofs.«01_k».proof.Proof.Gen.KernelIdeal.Frame
public import Idealize.ShloMosaic.Lib.Exec

@[expose] public section

set_option maxRecDepth 16384

noncomputable section

namespace Cert.KernelIdeal.Value

open Cert.KernelIdeal Cert.KernelIdeal.Gen Cert.Mlp
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

set_option maxHeartbeats 1000000 in
/-- The body's triple. -/
theorem kernelRun (c : Dev nD) (i : grid0.Coords) (arg1 : Memref sig .tc .vmem S256x2048 .f32) (harg1 : arg1.IsWhole) (arg2 : Memref sig .tc .vmem S256x256 .bf16) (harg2 : arg2.IsWhole) (arg3 : Memref sig .tc .vmem S2048x12288 .fp8e4m3) (harg3 : arg3.IsWhole) (arg4 : Memref sig .tc .vmem S1x12288 .f32) (harg4 : arg4.IsWhole) (arg5 : Memref sig .tc .vmem S6144x2048 .fp8e4m3) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .fp8e4m3) (harg8 : arg8.IsWhole) (arg9 : Memref sig .tc .vmem S256x1 .f32) (harg9 : arg9.IsWhole) (arg10 : Memref sig .tc .vmem S256x6144 .fp8e4m3) (harg10 : arg10.IsWhole) (arg11 : Memref sig .tc .vmem S256x1 .f32) (harg11 : arg11.IsWhole) (arg12 : Memref sig .tc .vmem S256x6144 .f32) (harg12 : arg12.IsWhole)
    (x0 : Vec Ideal S256x2048 .f32) (x1 : Vec Ideal S256x256 .bf16) (x2 : Vec Ideal S2048x12288 .fp8e4m3) (x3 : Vec Ideal S1x12288 .f32) (x4 : Vec Ideal S6144x2048 .fp8e4m3) (x5 : Vec Ideal S1x2048 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (outY x0 x1 x2 x3 x4 x5) ∗ owns (c : Thread nD τ) arg8 fullShare (outXC x0 x1) ∗ owns (c : Thread nD τ) arg9 fullShare (outXS x0 x1) ∗ owns (c : Thread nD τ) arg10 fullShare (outHC x0 x1 x2 x3) ∗ owns (c : Thread nD τ) arg11 fullShare (outHS x0 x1 x2 x3) ∗ (∃ d, owns (c : Thread nD τ) arg12 fullShare d)) -∗ K ⟨⟩))
          ⊢ wp frame (wpE (defs₀ (F := Ideal)) Variants.none c none) E (cc0__mlp_kernel i arg1 harg1 arg2 harg2 arg3 harg3 arg4 harg4 arg5 harg5 arg6 harg6 arg7 harg7 arg8 harg8 arg9 harg9 arg10 harg10 arg11 harg11 arg12 harg12) K := by
    intro E K
    simp only [cc0__mlp_kernel_eq_skeleton]; unfold cc0__mlp_kernel_skel
    simp only [k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    have L := loads_of harg1 harg2 x0 x1
    have e8 := (read_full arg8.view arg8.view.junk zero2 inb_S256x2048_S256x2048_0_0 _).trans
      (xc_eq L _ (x_scratch L arg12.view inb_S256x6144_S256x2048_0_0))
    have hs := fun v154 => hs_eq c i arg1 harg1 arg2 harg2 arg3 harg3 arg4 harg4 arg5 harg5 arg6 harg6 arg7 harg7 arg8 harg8 arg9 harg9 arg10 harg10 arg11 harg11 arg12 harg12 L v154 (harg3.unread x2) (harg4.unread x3) _ (harg3.read_unread x2) (harg4.read_unread x3) e8
    have hc := fun v154 f P => hc_eq c i arg1 harg1 arg2 harg2 arg3 harg3 arg4 harg4 arg5 harg5 arg6 harg6 arg7 harg7 arg8 harg8 arg9 harg9 arg10 harg10 arg11 harg11 arg12 harg12 L v154 (harg3.unread x2) (harg4.unread x3) _ (harg3.read_unread x2) (harg4.read_unread x3) e8 f P inb_S256x6144_S256x6144_0_0
    have hh := fun v154 f P => readCov_full arg10.view zero2 inb_S256x6144_S256x6144_0_0 (hc v154 f P)
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      refine y_read f6 (outY x0 x1 x2 x3 x4 x5) _ _ _ _ _ _ _ _ ?_ ?_ ?_ ?_
      · exact fun r k h => (pay74_apply _ _ _ _ r k).trans (y_piece x0 x1 x2 x3 x4 x5 harg5 harg6 _ _ (hs _) (hh _ _ _) 0 _ _ _ _ rfl rfl r k h)
      · exact fun r k h => (pay75_apply _ _ _ _ r k).trans (y_piece x0 x1 x2 x3 x4 x5 harg5 harg6 _ _ (hs _) (hh _ _ _) 512 _ _ _ _ rfl rfl r k h)
      · exact fun r k h => (pay1_apply _ _ _ _ r k).trans (y_piece x0 x1 x2 x3 x4 x5 harg5 harg6 _ _ (hs _) (hh _ _ _) 1024 _ _ _ _ rfl rfl r k h)
      · exact fun r k h => (pay2_apply _ _ _ _ r k).trans (y_piece x0 x1 x2 x3 x4 x5 harg5 harg6 _ _ (hs _) (hh _ _ _) 1536 _ _ _ _ rfl rfl r k h)
    isplitl [H7]
    · iexists _; isplitr; swap; · iexact H7
      ipureintro
      exact e8
    isplitl [H8]
    · iexists _; isplitr; swap; · iexact H8
      ipureintro
      exact (read_full _ _ zero2 _ _).trans (xs_eq L)
    isplitl [H9]
    · iexists _; isplitr; swap; · iexact H9
      ipureintro
      exact (read_full _ _ zero2 _ _).trans (hc _ _ _)
    isplitl [H10]
    · iexists _; isplitr; swap; · iexact H10
      ipureintro
      exact (read_full _ _ zero2 _ _).trans (hs _)
    iexists _, _; isplitr; swap; · iexact HS0
    ipureintro; rfl

end Cert.KernelIdeal.Value
-- ==== Proof.KerFrame.lean ====
/-
  The kernel's whole run: the proof data of its pipeline with every block named, the body's obligation at every grid point, and
  the run with each result's array named after it.
-/
module

public import proofs.«01_k».proof.Proof.KerRun
public import Idealize.ShloMosaic.Lib.Pipeline.FrameBody
public import Idealize.ShloMosaic.Lib.Pipeline.Value
public import Idealize.ShloMosaic.Lib.Claim

@[expose] public section

set_option maxRecDepth 16384

noncomputable section

namespace Cert.KernelIdeal.Value

open Cert.KernelIdeal Cert.KernelIdeal.Gen Cert.Mlp
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The region's invariant, written out: the scratch buffer whole at some contents, and the generator register. -/
theorem PhiA0_eq (c : Dev nD) :
    (Pipeline.ΦA spec0 c : sProp 𝕄)
      = iprop(iprop((∃ d, owns (c : Thread nD τ) (Memref.whole cc0_scratch0) fullShare d)) ∗ (∃ r, prngReg c r)) := by
  unfold Pipeline.ΦA; rw [scopedRest0_eq]; simp only [owns_whole]; try rfl

/-! ## The proof data -/

/-- The arrays as the region finds them; after the body at a point each input's buffer at its block and each result's at the
    specification's block of the input blocks. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outY (iblk m c 0 t) (iblk m c 1 t) (iblk m c 2 t) (iblk m c 3 t) (iblk m c 4 t) (iblk m c 5 t)
    | ⟨7, _⟩ => outXC (iblk m c 0 t) (iblk m c 1 t)
    | ⟨8, _⟩ => outXS (iblk m c 0 t) (iblk m c 1 t)
    | ⟨9, _⟩ => outHC (iblk m c 0 t) (iblk m c 1 t) (iblk m c 2 t) (iblk m c 3 t)
    | ⟨10, _⟩ => outHS (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

/-! What the body leaves, window by window. -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outY (iblk m c 0 t) (iblk m c 1 t) (iblk m c 2 t) (iblk m c 3 t) (iblk m c 4 t) (iblk m c 5 t) := by dsimp only [dats]
theorem after0_7 (c : Dev nD) (t : Fin cfg0.N) : (dats m 0 c).after 7 t = outXC (iblk m c 0 t) (iblk m c 1 t) := by dsimp only [dats]
theorem after0_8 (c : Dev nD) (t : Fin cfg0.N) : (dats m 0 c).after 8 t = outXS (iblk m c 0 t) (iblk m c 1 t) := by dsimp only [dats]
theorem after0_9 (c : Dev nD) (t : Fin cfg0.N) : (dats m 0 c).after 9 t = outHC (iblk m c 0 t) (iblk m c 1 t) (iblk m c 2 t) (iblk m c 3 t) := by dsimp only [dats]
theorem after0_10 (c : Dev nD) (t : Fin cfg0.N) : (dats m 0 c).after 10 t = outHS (iblk m c 0 t) (iblk m c 1 t) (iblk m c 2 t) (iblk m c 3 t) := by dsimp only [dats]

/-! Each input's staging buffer holds its block at every point. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 1200000 in
/-- The body at any point: the inputs' buffers hold their blocks, so the body's triple applies. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (kernelRun c (grid0.coords t) _ _ _ _ _ _ _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [HS0]; · iexact HS0
  iintro ⟨H0, H1, H2, H3, H4, H5, H6, H7, H8, H9, H10, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := Ideal) .tc cfg0.body (cfg0.bodyArgs t (cfg0.slots t)) = bodyAt0 t := by
  unfold defs₀; rw [Defs.onTc_tc]

/-- The pipeline's body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- Every execution terminates with every array at what the proof data says and every semaphore counter at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := Ideal))) (s₀ m ρ) (Pipeline.FramePost cfgs (dats m) 0 (V m)) :=
  (θ_run defs _ _).mono (fun _ h => h.1) (run_main_quiescent m ρ)

/-- The arguments end as they began. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The kernel terminates, its arguments end unchanged, and every semaphore counter ends at zero. -/
theorem frame_claim : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

/-- The run with each result's array named: what the proof data's write-backs make of it; the arguments unchanged. -/
theorem run_blocks : θ_run defs (onTc (τ := τ) (main (F := Ideal))) ⟨m, fun _ => 0, ρ⟩ (fun r => ∀ c : Dev nD,
      r.2.mem ((c.tc : Thread nD τ).loc main_v6_0) = (dats m 0 c).arrAt 6 cfg0.N
      ∧ r.2.mem ((c.tc : Thread nD τ).loc main_v6_1) = (dats m 0 c).arrAt 7 cfg0.N
      ∧ r.2.mem ((c.tc : Thread nD τ).loc main_v6_2) = (dats m 0 c).arrAt 8 cfg0.N
      ∧ r.2.mem ((c.tc : Thread nD τ).loc main_v6_3) = (dats m 0 c).arrAt 9 cfg0.N
      ∧ r.2.mem ((c.tc : Thread nD τ).loc main_v6_4) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1 c).1 6, (h.1 c).1 7, (h.1 c).1 8, (h.1 c).1 9, (h.1 c).1 10, h.2 c⟩)
    (θ_run_and (run_main m ρ) (unchanged m ρ))

end Cert.KernelIdeal.Value

end
-- ==== Proof.KerHost.lean ====
/-
  The arrays the kernel's region finds: the reshaped arguments, and the rotation's matrix doubled along the diagonal.
-/
module

public import proofs.«01_k».proof.Proof.KerFrame
public import Idealize.ShloMosaic.Lib.Pointwise
public import Idealize.ShloMosaic.Lib.StableHlo.Run

@[expose] public section

noncomputable section

namespace Cert.KernelIdeal.Value

open Cert.KernelIdeal Cert.KernelIdeal.Gen Cert.Mlp Idealize.ShloMosaic Idealize.ShloMosaic.TcCoe
open Idealize.ShloMosaic.StableHlo

variable (m : (ℓ : Loc nD τ sig) → Buf (Elt Ideal) ℓ)

/-- The input as rows. -/
theorem V_v5 (c : Dev nD) : V m c main_v5 = shapeCast S16384x2048 (m ((c.tc : Thread nD τ).loc main_arg0)) shapeCasts_S8x2048x2048_S16384x2048 := by
  unfold V
  simp only [List.flatten_cons, List.flatten_nil, List.append_nil, List.cons_append, List.nil_append]
  after_results
  rfl

/-- The gate and up weights' scales as one row. -/
theorem V_v3 (c : Dev nD) : V m c main_v3 = shapeCast S1x12288 (m ((c.tc : Thread nD τ).loc main_arg3)) shapeCasts_S12288_S1x12288 := by
  unfold V
  simp only [List.flatten_cons, List.flatten_nil, List.append_nil, List.cons_append, List.nil_append]
  after_results
  rfl

/-- The down weights' scales as one row. -/
theorem V_v4 (c : Dev nD) : V m c main_v4 = shapeCast S1x2048 (m ((c.tc : Thread nD τ).loc main_arg5)) shapeCasts_S2048_S1x2048 := by
  unfold V
  simp only [List.flatten_cons, List.flatten_nil, List.append_nil, List.cons_append, List.nil_append]
  after_results
  rfl

/-- A matrix twice on the diagonal and zeros off it, as the concatenations make it. -/
def dbl (H Z : Vec Ideal S128x128 .f32) : Vec Ideal S256x256 .f32 :=
  concatenate S256x256 0 [⟨S128x256, concatenate S128x256 1 [⟨S128x128, H⟩, ⟨S128x128, Z⟩] concatenates_S128x128_S128x128_S128x256_d1⟩,
    ⟨S128x256, concatenate S128x256 1 [⟨S128x128, Z⟩, ⟨S128x128, H⟩] concatenates_S128x128_S128x128_S128x256_d1⟩] concatenates_S128x256_S128x256_S256x256_d0

/-- The doubled matrix the region finds. -/
theorem V_v2 (c : Dev nD) : V m c main_v2 = (truncf (F := Ideal) (s := S256x256) .bf16 (dbl (m ((c.tc : Thread nD τ).loc main_arg1))
    (broadcastInDim S128x128 ![] bcast_S_S128x128 (constant (F := Ideal) S_ .f32 0x00000000#32))) bitsLt_bf16_f32 : Vec Ideal S256x256 .bf16) := by
  unfold V dbl
  simp only [List.flatten_cons, List.flatten_nil, List.append_nil, List.cons_append, List.nil_append]
  after_results
  rfl

/-- A row of two matrices side by side. -/
theorem side_apply (A B : Vec Ideal S128x128 .f32) (a : Fin 128) (b : Fin 256) :
    concatenate S128x256 1 [⟨S128x128, A⟩, ⟨S128x128, B⟩] concatenates_S128x128_S128x128_S128x256_d1 (ix2 a b)
      = if h : b.val < 128 then A (ix2 a ⟨b.val, h⟩) else B (ix2 a ⟨b.val - 128, by omega⟩) := by
  split
  · next h =>
    exact concatenate_pair_apply_left (t := S128x256) (s₁ := S128x128) (s₂ := S128x128) (1 : Fin 2) A B
      concatenates_S128x128_S128x128_S128x256_d1 (ix2 a b) rfl (ix2 a ⟨b.val, h⟩) (fun k => match k with | ⟨0, _⟩ => rfl | ⟨1, _⟩ => rfl)
  · next h =>
    exact concatenate_pair_apply_right (t := S128x256) (s₁ := S128x128) (s₂ := S128x128) (1 : Fin 2) A B
      concatenates_S128x128_S128x128_S128x256_d1 (ix2 a b) rfl rfl (ix2 a ⟨b.val - 128, by omega⟩)
      (fun k hk => match k, hk with | ⟨0, _⟩, _ => rfl | ⟨1, _⟩, hk => absurd rfl hk)
      (show b.val - 128 + 128 = b.val by omega)

/-- A column of two matrices one above the other. -/
theorem stack_apply (A B : Vec Ideal S128x256 .f32) (a b : Fin 256) :
    concatenate S256x256 0 [⟨S128x256, A⟩, ⟨S128x256, B⟩] concatenates_S128x256_S128x256_S256x256_d0 (ix2 a b)
      = if h : a.val < 128 then A (ix2 ⟨a.val, h⟩ b) else B (ix2 ⟨a.val - 128, by omega⟩ b) := by
  split
  · next h =>
    exact concatenate_pair_apply_left (t := S256x256) (s₁ := S128x256) (s₂ := S128x256) (0 : Fin 2) A B
      concatenates_S128x256_S128x256_S256x256_d0 (ix2 a b) rfl (ix2 ⟨a.val, h⟩ b) (fun k => match k with | ⟨0, _⟩ => rfl | ⟨1, _⟩ => rfl)
  · next h =>
    exact concatenate_pair_apply_right (t := S256x256) (s₁ := S128x256) (s₂ := S128x256) (0 : Fin 2) A B
      concatenates_S128x256_S128x256_S256x256_d0 (ix2 a b) rfl rfl (ix2 ⟨a.val - 128, by omega⟩ b)
      (fun k hk => match k, hk with | ⟨0, _⟩, hk => absurd rfl hk | ⟨1, _⟩, _ => rfl)
      (show a.val - 128 + 128 = a.val by omega)

/-- The doubled matrix entry by entry, whatever the off-diagonal matrix is. -/
theorem dbl_apply (H Z : Vec Ideal S128x128 .f32) (a b : Fin 256) :
    dbl H Z (ix2 a b) = (if a.val / 128 = b.val / 128 then H else Z) (ix2 ⟨a.val % 128, Nat.mod_lt _ (by norm_num)⟩ ⟨b.val % 128, Nat.mod_lt _ (by norm_num)⟩) := by
  have ha := a.isLt
  have hb := b.isLt
  unfold dbl
  rw [stack_apply]
  by_cases h : a.val < 128
  · rw [dif_pos h, side_apply]
    by_cases h' : b.val < 128
    · rw [dif_pos h', if_pos (by omega)]
      exact congrArg H (congrArg₂ ix2 (Fin.ext (show a.val = a.val % 128 by omega)) (Fin.ext (show b.val = b.val % 128 by omega)))
    · rw [dif_neg h', if_neg (by omega)]
      exact congrArg Z (congrArg₂ ix2 (Fin.ext (show a.val = a.val % 128 by omega)) (Fin.ext (show b.val - 128 = b.val % 128 by omega)))
  · rw [dif_neg h, side_apply]
    by_cases h' : b.val < 128
    · rw [dif_pos h', if_neg (by omega)]
      exact congrArg Z (congrArg₂ ix2 (Fin.ext (show a.val - 128 = a.val % 128 by omega)) (Fin.ext (show b.val = b.val % 128 by omega)))
    · rw [dif_neg h', if_pos (by omega)]
      exact congrArg H (congrArg₂ ix2 (Fin.ext (show a.val - 128 = a.val % 128 by omega)) (Fin.ext (show b.val - 128 = b.val % 128 by omega)))

/-- The rotation's matrix, as launched. -/
abbrev argH (c : Dev nD) (a b : Fin 128) : EReal := m ((c.tc : Thread nD τ).loc main_arg1) (ix2 a b)

/-- The matrix the region finds is the rotation's matrix twice on the diagonal and zero off it. -/
theorem had2_apply (c : Dev nD) (a b : Fin 256) :
    (V m c main_v2 (ix2 a b) : EReal) = if a.val / 128 = b.val / 128 then
      argH m c ⟨a.val % 128, Nat.mod_lt _ (by norm_num)⟩ ⟨b.val % 128, Nat.mod_lt _ (by norm_num)⟩ else 0 := by
  rw [V_v2]
  refine (dbl_apply _ _ a b).trans ?_
  split
  · rfl
  · exact bits_zero

end Cert.KernelIdeal.Value

end
-- ==== Proof.KerValue.lean ====
/-
  The kernel's five results after its run: row by row, the specification's scales, codes and outputs of the arrays it was
  launched on.
-/
module

public import proofs.«01_k».proof.Proof.KerHost
public import Idealize.ShloMosaic.Lib.Pipeline.ValueKit.Geometry

@[expose] public section

noncomputable section

namespace Cert.KernelIdeal.Value

open Cert.KernelIdeal Cert.KernelIdeal.Gen Cert.Mlp Idealize.ShloMosaic Idealize.ShloMosaic.TcCoe
open scoped BigOperators

variable (m : (ℓ : Loc nD τ sig) → Buf (Elt Ideal) ℓ)

/-! ## Where each window's block lies -/

theorem idx_0 : ∀ t : Fin cfg0.N, win0_0.index t = ![t.val, 0] := (by decide +kernel : ∀ t : Fin grid0.N, win0_0.index t = ![t.val, 0])
theorem idx_6 : ∀ t : Fin cfg0.N, win0_6.index t = ![t.val, 0] := (by decide +kernel : ∀ t : Fin grid0.N, win0_6.index t = ![t.val, 0])
theorem idx_7 : ∀ t : Fin cfg0.N, win0_7.index t = ![t.val, 0] := (by decide +kernel : ∀ t : Fin grid0.N, win0_7.index t = ![t.val, 0])
theorem idx_8 : ∀ t : Fin cfg0.N, win0_8.index t = ![t.val, 0] := (by decide +kernel : ∀ t : Fin grid0.N, win0_8.index t = ![t.val, 0])
theorem idx_9 : ∀ t : Fin cfg0.N, win0_9.index t = ![t.val, 0] := (by decide +kernel : ∀ t : Fin grid0.N, win0_9.index t = ![t.val, 0])
theorem idx_10 : ∀ t : Fin cfg0.N, win0_10.index t = ![t.val, 0] := (by decide +kernel : ∀ t : Fin grid0.N, win0_10.index t = ![t.val, 0])
theorem idx_1 : ∀ t : Fin cfg0.N, win0_1.index t = ![0, 0] := (by decide +kernel : ∀ t : Fin grid0.N, win0_1.index t = ![0, 0])
theorem idx_2 : ∀ t : Fin cfg0.N, win0_2.index t = ![0, 0] := (by decide +kernel : ∀ t : Fin grid0.N, win0_2.index t = ![0, 0])
theorem idx_3 : ∀ t : Fin cfg0.N, win0_3.index t = ![0, 0] := (by decide +kernel : ∀ t : Fin grid0.N, win0_3.index t = ![0, 0])
theorem idx_4 : ∀ t : Fin cfg0.N, win0_4.index t = ![0, 0] := (by decide +kernel : ∀ t : Fin grid0.N, win0_4.index t = ![0, 0])
theorem idx_5 : ∀ t : Fin cfg0.N, win0_5.index t = ![0, 0] := (by decide +kernel : ∀ t : Fin grid0.N, win0_5.index t = ![0, 0])

theorem N_64 (t : Fin cfg0.N) : t.val < 64 := lt_of_lt_of_eq t.isLt N_0

/-- Row `r` of block `t`, in the whole array. -/
def rowAt (t : Fin cfg0.N) (r : Fin 256) : Fin 16384 := ⟨t.val * 256 + r.val, by have := N_64 t; have := r.isLt; omega⟩

/-! ## The input blocks -/

theorem iblk1_eq (c : Dev nD) (t : Fin cfg0.N) : iblk m c 1 t = V m c main_v2 := by
  have h : (fun a => win0_1.index t a * main_v2.ty.shape.size a) = fun _ => 0 := funext fun a => by
    rw [idx_1]
    fin_cases a <;> exact Nat.zero_mul _
  exact Memref.read_access_unit_zero (Elt Ideal) main_v2 h (fun a => by rw [congrFun h a]; simp) _

theorem iblk2_eq (c : Dev nD) (t : Fin cfg0.N) : iblk m c 2 t = V m c main_arg2 := by
  have h : (fun a => win0_2.index t a * main_arg2.ty.shape.size a) = fun _ => 0 := funext fun a => by
    rw [idx_2]
    fin_cases a <;> exact Nat.zero_mul _
  exact Memref.read_access_unit_zero (Elt Ideal) main_arg2 h (fun a => by rw [congrFun h a]; simp) _

theorem iblk3_eq (c : Dev nD) (t : Fin cfg0.N) : iblk m c 3 t = V m c main_v3 := by
  have h : (fun a => win0_3.index t a * main_v3.ty.shape.size a) = fun _ => 0 := funext fun a => by
    rw [idx_3]
    fin_cases a <;> exact Nat.zero_mul _
  exact Memref.read_access_unit_zero (Elt Ideal) main_v3 h (fun a => by rw [congrFun h a]; simp) _

theorem iblk4_eq (c : Dev nD) (t : Fin cfg0.N) : iblk m c 4 t = V m c main_arg4 := by
  have h : (fun a => win0_4.index t a * main_arg4.ty.shape.size a) = fun _ => 0 := funext fun a => by
    rw [idx_4]
    fin_cases a <;> exact Nat.zero_mul _
  exact Memref.read_access_unit_zero (Elt Ideal) main_arg4 h (fun a => by rw [congrFun h a]; simp) _

theorem iblk5_eq (c : Dev nD) (t : Fin cfg0.N) : iblk m c 5 t = V m c main_v4 := by
  have h : (fun a => win0_5.index t a * main_v4.ty.shape.size a) = fun _ => 0 := funext fun a => by
    rw [idx_5]
    fin_cases a <;> exact Nat.zero_mul _
  exact Memref.read_access_unit_zero (Elt Ideal) main_v4 h (fun a => by rw [congrFun h a]; simp) _

/-- The arrays the region finds, by row and column. -/
abbrev inX (c : Dev nD) (r : Fin 16384) (k : Fin 2048) : EReal := V m c main_v5 (ix2 r k)
abbrev inW (c : Dev nD) (k : Fin 2048) (f : Fin 12288) : EReal := V m c main_arg2 (ix2 k f)
abbrev inWS (c : Dev nD) (f : Fin 12288) : EReal := V m c main_v3 (ix2 0 f)
abbrev inWD (c : Dev nD) (f : Fin 6144) (k : Fin 2048) : EReal := V m c main_arg4 (ix2 f k)
abbrev inWDS (c : Dev nD) (k : Fin 2048) : EReal := V m c main_v4 (ix2 0 k)

/-- The input's block holds 256 of its rows. -/
theorem iblk0_apply (c : Dev nD) (t : Fin cfg0.N) (r : Fin 256) (k : Fin 2048) : (iblk m c 0 t (ix2 r k) : EReal) = inX m c (rowAt t r) k := by
  unfold iblk
  blk_simp
  refine congrArg (V m c main_v5) (funext fun a => Fin.ext ?_)
  fin_cases a
  · blk_simp [idx_0]
    rfl
  · blk_simp [idx_0]
    simp

/-! ## A block's rows are the array's -/

/-- Rotating by the doubled matrix is rotating by the matrix. -/
theorem rot256_had2 {n : ℕ} (hd : 256 ∣ n) (hd' : 128 ∣ n) (c : Dev nD) (v : Fin n → EReal) :
    rot256 hd (V m c main_v2) v = rot 128 (by norm_num) hd' (argH m c) v :=
  rot_double 128 (by norm_num) hd' (by norm_num) hd (argH m c) (fun a b => V m c main_v2 (ix2 a b)) (had2_apply m c) v

theorem bx_eq (c : Dev nD) (t : Fin cfg0.N) (r : Fin 256) : bx (iblk m c 0 t) (iblk m c 1 t) r = xRot (argH m c) (inX m c) (rowAt t r) := by
  unfold bx xRot
  rw [iblk1_eq, show (fun k => iblk m c 0 t (ix2 r k)) = inX m c (rowAt t r) from funext fun k => iblk0_apply m c t r k]
  exact rot256_had2 m _ _ c _

theorem bh_eq (c : Dev nD) (t : Fin cfg0.N) (r : Fin 256) :
    bh (iblk m c 0 t) (iblk m c 1 t) (iblk m c 2 t) (iblk m c 3 t) r = hRot (argH m c) (inW m c) (inWS m c) (inX m c) (rowAt t r) := by
  unfold bh hRot
  rw [bx_eq, iblk1_eq, iblk2_eq, iblk3_eq]
  exact rot256_had2 m _ _ c _

/-! ## The results -/

/-- The five results, row by row. -/
def res6 (c : Dev nD) : Vec Ideal S16384x2048 .f32 := fun i =>
  downOf (inWD m c) (inWDS m c) (hRot (argH m c) (inW m c) (inWS m c) (inX m c) (i 0)) (i 1)
def res7 (c : Dev nD) : Vec Ideal S16384x2048 .fp8e4m3 := fun i => codes (xRot (argH m c) (inX m c) (i 0)) (i 1)
def res8 (c : Dev nD) : Vec Ideal S16384x1 .f32 := fun i => scale (xRot (argH m c) (inX m c) (i 0))
def res9 (c : Dev nD) : Vec Ideal S16384x6144 .fp8e4m3 := fun i => codes (hRot (argH m c) (inW m c) (inWS m c) (inX m c) (i 0)) (i 1)
def res10 (c : Dev nD) : Vec Ideal S16384x1 .f32 := fun i => scale (hRot (argH m c) (inW m c) (inWS m c) (inX m c) (i 0))

/-- What the body computes from a row of a block it computes from that row of the array. -/
theorem row_at {n k : ℕ} (F : (Fin n → EReal) → Fin k → EReal) (f : Fin 256 → Fin n → EReal) (g : Fin 16384 → Fin n → EReal) (t : Fin cfg0.N)
    (h : ∀ r, f r = g (rowAt t r)) (a : Fin 256) (a' : Fin 16384) (b b' : Fin k) (ea : a'.val = t.val * 256 + a.val) (eb : b'.val = b.val) :
    F (f a) b = F (g a') b' := by
  rw [h, show a' = rowAt t a from Fin.ext ea, show b' = b from Fin.ext eb]

theorem final6 (c : Dev nD) : (dats m 0 c).arrAt 6 cfg0.N = res6 m c := by
  refine (dats m 0 c).arrAt_eq_of_covers 6 _ (by decide +kernel) fun t hf y => ?_
  blk_simp
  rw [after0_6, iblk4_eq, iblk5_eq]
  exact row_at (downOf (inWD m c) (inWDS m c)) (bh (iblk m c 0 t) (iblk m c 1 t) (iblk m c 2 t) (iblk m c 3 t)) (hRot (argH m c) (inW m c) (inWS m c) (inX m c)) t (bh_eq m c t)
    (y 0) ((win0_6.blk t).view.emb y 0) (y 1) ((win0_6.blk t).view.emb y 1) (by blk_simp [idx_6]) (by blk_simp [idx_6])

theorem final7 (c : Dev nD) : (dats m 0 c).arrAt 7 cfg0.N = res7 m c := by
  refine (dats m 0 c).arrAt_eq_of_covers 7 _ (by decide +kernel) fun t hf y => ?_
  blk_simp
  rw [after0_7]
  exact row_at (codes) (bx (iblk m c 0 t) (iblk m c 1 t)) (xRot (argH m c) (inX m c)) t (bx_eq m c t)
    (y 0) ((win0_7.blk t).view.emb y 0) (y 1) ((win0_7.blk t).view.emb y 1) (by blk_simp [idx_7]) (by blk_simp [idx_7])

theorem final8 (c : Dev nD) : (dats m 0 c).arrAt 8 cfg0.N = res8 m c := by
  refine (dats m 0 c).arrAt_eq_of_covers 8 _ (by decide +kernel) fun t hf y => ?_
  blk_simp
  rw [after0_8]
  exact row_at (fun v _ => scale v) (bx (iblk m c 0 t) (iblk m c 1 t)) (xRot (argH m c) (inX m c)) t (bx_eq m c t)
    (y 0) ((win0_8.blk t).view.emb y 0) (0 : Fin 1) (0 : Fin 1) (by blk_simp [idx_8]) (rfl)

theorem final9 (c : Dev nD) : (dats m 0 c).arrAt 9 cfg0.N = res9 m c := by
  refine (dats m 0 c).arrAt_eq_of_covers 9 _ (by decide +kernel) fun t hf y => ?_
  blk_simp
  rw [after0_9]
  exact row_at (codes) (bh (iblk m c 0 t) (iblk m c 1 t) (iblk m c 2 t) (iblk m c 3 t)) (hRot (argH m c) (inW m c) (inWS m c) (inX m c)) t (bh_eq m c t)
    (y 0) ((win0_9.blk t).view.emb y 0) (y 1) ((win0_9.blk t).view.emb y 1) (by blk_simp [idx_9]) (by blk_simp [idx_9])

theorem final10 (c : Dev nD) : (dats m 0 c).arrAt 10 cfg0.N = res10 m c := by
  refine (dats m 0 c).arrAt_eq_of_covers 10 _ (by decide +kernel) fun t hf y => ?_
  blk_simp
  rw [after0_10]
  exact row_at (fun v _ => scale v) (bh (iblk m c 0 t) (iblk m c 1 t) (iblk m c 2 t) (iblk m c 3 t)) (hRot (argH m c) (inW m c) (inWS m c) (inX m c)) t (bh_eq m c t)
    (y 0) ((win0_10.blk t).view.emb y 0) (0 : Fin 1) (0 : Fin 1) (by blk_simp [idx_10]) (rfl)

end Cert.KernelIdeal.Value

end
-- ==== Proof.RefPay.lean ====
/-
  What the reference's body computes, entry by entry: the rotations, scales, codes and products of the specification with
  blocks of 128.
-/
module

public import proofs.«01_k».proof.Proof.Spec
public import proofs.«01_k».proof.Proof.Gen.ReferenceIdeal.Value

@[expose] public section

noncomputable section

namespace Cert.ReferenceIdeal.Value

open Cert.ReferenceIdeal Cert.ReferenceIdeal.Gen Cert.Mlp Idealize.ShloMosaic
open scoped BigOperators

/-- The rotation of the input: each row, rotated by blocks of 128. -/
theorem pay2_apply (h : Vec Ideal S128x128 .f32) (x : Vec Ideal S16384x2048 .f32) (r : Fin 16384) (c : Fin 2048) :
    k0_pay2 h x (ix2 r c) = rot 128 (by norm_num) (by norm_num) (fun a b => h (ix2 a b)) (fun c => x (ix2 r c)) c := by
  pointwise [k0_pay2]
  unfold rot
  refine Finset.sum_congr rfl fun j _ => ?_
  congr 3
  refine Fin.ext ?_
  show (r.val * 16 + c.val / 128) % 16 * 128 + j.val = 128 * (c.val / 128) + j.val
  omega

/-- A column vector of exponents from a column vector of largest magnitudes. -/
theorem exp_apply (w : S16384x1.Idx → Ideal .f32) (i : S16384x1.Idx) :
    select (cmpf CmpFPredicate.oeq w (broadcast S16384x1 (FloatOps.ofBits FTy.f32 0x00000000#32)))
      (broadcast S16384x1 (FloatOps.ofBits FTy.f32 0x00000000#32))
      (minimumf (broadcast S16384x1 (FloatOps.ofBits FTy.f32 0x43000000#32))
        (maximumf (broadcast S16384x1 (FloatOps.ofBits FTy.f32 0xC2FC0000#32))
          (addf
            (floor
              (divf (log (mulf w (broadcast S16384x1 (FloatOps.ofBits FTy.f32 0x3B124925#32))))
                (broadcast S16384x1 (Scalar.log (FloatOps.ofBits FTy.f32 0x40000000#32)))))
            (broadcast S16384x1 (FloatOps.ofBits FTy.f32 0x3F800000#32))))) i =
    rowExp (w i) q448 := rowExp_ops (w i)

/-- The largest magnitude in each row of 2048. -/
theorem amax_apply (v : FVec Ideal S16384x2048 .f32) (r : Fin 16384) :
    shapeCast S16384x1 (multiReduction .maximumf [1] S16384 (absf v) 0xFF800000#32 reduces_S16384x2048_S16384 (.inl rfl) rfl) shapeCasts_S16384_S16384x1 (ix2 r 0)
      = absMax fun c => v (ix2 r c) := by
  pointwise
  rw [bits_bot]
  rfl

/-- The largest magnitude in each row of 6144. -/
theorem amax_apply' (v : FVec Ideal S16384x6144 .f32) (r : Fin 16384) :
    shapeCast S16384x1 (multiReduction .maximumf [1] S16384 (absf v) 0xFF800000#32 reduces_S16384x6144_S16384 (.inl rfl) rfl) shapeCasts_S16384_S16384x1 (ix2 r 0)
      = absMax fun c => v (ix2 r c) := by
  pointwise
  rw [bits_bot]
  rfl

/-- The exponent of a row of the rotated input. -/
theorem pay3_apply (h : Vec Ideal S128x128 .f32) (x : Vec Ideal S16384x2048 .f32) (r : Fin 16384) :
    k0_pay3 h x (ix2 r 0) = rowExp (absMax fun c => k0_pay2 h x (ix2 r c)) q448 := by
  rw [← amax_apply]
  exact exp_apply _ _

/-- The scale of a row of the rotated input. -/
theorem pay4_apply (h : Vec Ideal S128x128 .f32) (x : Vec Ideal S16384x2048 .f32) (r : Fin 16384) :
    k0_pay4 h x (ix2 r 0) = scale fun c => k0_pay2 h x (ix2 r c) := by
  rw [scale, ← pay3_apply]
  exact exp2_vec _ _

theorem column_apply (w : FVec Ideal S16384x1 .f32) (r : Fin 16384) (c : Fin 2048) :
    broadcastTo S16384x2048 w broadcasts_S16384x1_S16384x2048 (ix2 r c) = w (ix2 r 0) := by
  pointwise

theorem column_apply' (w : FVec Ideal S16384x1 .f32) (r : Fin 16384) (c : Fin 6144) :
    broadcastTo S16384x6144 w broadcasts_S16384x1_S16384x6144 (ix2 r c) = w (ix2 r 0) := by
  pointwise

/-- The codes of a row of the rotated input. -/
theorem pay5_apply (h : Vec Ideal S128x128 .f32) (x : Vec Ideal S16384x2048 .f32) (r : Fin 16384) (c : Fin 2048) :
    k0_pay5 h x (ix2 r c) = codes (fun c => k0_pay2 h x (ix2 r c)) c := by
  rw [codes, invScale, ← pay3_apply, ← exp2_neg_vec]
  refine (clip_vec _ _ _ _).trans ?_
  rw [column_apply]

/-- The product of the codes with the gate and up weights, times the row's scale. -/
theorem pay6_apply (h : Vec Ideal S128x128 .f32) (x : Vec Ideal S16384x2048 .f32) (w : Vec Ideal S2048x12288 .fp8e4m3) (r : Fin 16384) (f : Fin 12288) :
    k0_pay6 h x w (ix2 r f) = (∑ k : Fin 2048, k0_pay5 h x (ix2 r k) * w (ix2 k f)) * k0_pay4 h x (ix2 r 0) := by
  unfold k0_pay6
  generalize k0_pay5 h x = v
  generalize k0_pay4 h x = e
  pointwise

/-- The rotation of the hidden rows. -/
theorem pay7_apply (h : Vec Ideal S128x128 .f32) (a : FVec Ideal S16384x12288 .f32) (ws : Vec Ideal S1x12288 .f32) (r : Fin 16384) (c : Fin 6144) :
    k0_pay7 h a ws (ix2 r c) = rot 128 (by norm_num) (by norm_num) (fun a b => h (ix2 a b))
      (fun f : Fin 6144 => a (ix2 r ⟨f, by omega⟩) * ws (ix2 0 ⟨f, by omega⟩) * Ideal.logistic (a (ix2 r ⟨f, by omega⟩) * ws (ix2 0 ⟨f, by omega⟩)) *
        (a (ix2 r ⟨6144 + f, by omega⟩) * ws (ix2 0 ⟨6144 + f, by omega⟩))) c := by
  pointwise [k0_pay7]
  unfold rot
  refine Finset.sum_congr rfl fun j _ => ?_
  have e : (r.val * 48 + c.val / 128) % 48 * 128 + j.val = 128 * (c.val / 128) + j.val := by omega
  simp only [e]

/-- The exponent of a rotated hidden row. -/
theorem pay8_apply (h : Vec Ideal S128x128 .f32) (a : FVec Ideal S16384x12288 .f32) (ws : Vec Ideal S1x12288 .f32) (r : Fin 16384) :
    k0_pay8 h a ws (ix2 r 0) = rowExp (absMax fun c => k0_pay7 h a ws (ix2 r c)) q448 := by
  rw [← amax_apply']
  exact exp_apply _ _

/-- The scale of a rotated hidden row. -/
theorem pay9_apply (h : Vec Ideal S128x128 .f32) (a : FVec Ideal S16384x12288 .f32) (ws : Vec Ideal S1x12288 .f32) (r : Fin 16384) :
    k0_pay9 h a ws (ix2 r 0) = scale fun c => k0_pay7 h a ws (ix2 r c) := by
  rw [scale, ← pay8_apply]
  exact exp2_vec _ _

/-- The codes of a rotated hidden row. -/
theorem pay10_apply (h : Vec Ideal S128x128 .f32) (a : FVec Ideal S16384x12288 .f32) (ws : Vec Ideal S1x12288 .f32) (r : Fin 16384) (c : Fin 6144) :
    k0_pay10 h a ws (ix2 r c) = codes (fun c => k0_pay7 h a ws (ix2 r c)) c := by
  rw [codes, invScale, ← pay8_apply, ← exp2_neg_vec]
  refine (clip_vec _ _ _ _).trans ?_
  rw [column_apply']

/-- The output rows. -/
theorem pay1_apply (s : FVec Ideal S16384x1 .f32) (hc : FVec Ideal S16384x6144 .fp8e4m3) (wd : Vec Ideal S6144x2048 .fp8e4m3) (wds : Vec Ideal S1x2048 .f32)
    (r : Fin 16384) (c : Fin 2048) :
    k0_pay1 s hc wd wds (ix2 r c) = down (fun k c => wd (ix2 k c)) (fun c => wds (ix2 0 c)) (fun k => hc (ix2 r k)) (s (ix2 r 0)) c := by
  pointwise [k0_pay1]
  rfl

end Cert.ReferenceIdeal.Value
-- ==== Proof.RefValue.lean ====
/-
  The reference's five results after its run: row by row, the specification's scales, codes and outputs of the arrays it was
  launched on.
-/
module

public import proofs.«01_k».proof.Proof.RefPay

@[expose] public section

noncomputable section

namespace Cert.ReferenceIdeal.Value

open Cert.ReferenceIdeal Cert.ReferenceIdeal.Gen Cert.Mlp Idealize.ShloMosaic
open scoped BigOperators

variable (m : (ℓ : Loc nD τ sig) → Buf (Elt Ideal) ℓ) (ρ : Dev nD → PrngReg)

theorem hz : (![0, 0] : Fin 2 → Nat) = fun _ => 0 := funext fun a => by fin_cases a <;> rfl

/-- The one grid point. -/
abbrev t0 : Fin cfg0.N := ⟨0, by decide⟩

/-! ## Each window's block is its whole array -/

theorem iblk0_eq (c : Dev nD) : iblk m c 0 t0 = V m c main_v0 := by
  have h : (fun a => win0_0.index t0 a * main_v0.ty.shape.size a) = fun _ => 0 := funext fun a => by fin_cases a <;> decide
  exact Memref.read_access_unit_zero (Elt Ideal) main_v0 h (fun a => by rw [congrFun h a]; simp) _

theorem iblk1_eq (c : Dev nD) : iblk m c 1 t0 = V m c main_arg1 := by
  have h : (fun a => win0_1.index t0 a * main_arg1.ty.shape.size a) = fun _ => 0 := funext fun a => by fin_cases a <;> decide
  exact Memref.read_access_unit_zero (Elt Ideal) main_arg1 h (fun a => by rw [congrFun h a]; simp) _

theorem iblk2_eq (c : Dev nD) : iblk m c 2 t0 = V m c main_arg2 := by
  have h : (fun a => win0_2.index t0 a * main_arg2.ty.shape.size a) = fun _ => 0 := funext fun a => by fin_cases a <;> decide
  exact Memref.read_access_unit_zero (Elt Ideal) main_arg2 h (fun a => by rw [congrFun h a]; simp) _

theorem iblk3_eq (c : Dev nD) : iblk m c 3 t0 = V m c main_v1 := by
  have h : (fun a => win0_3.index t0 a * main_v1.ty.shape.size a) = fun _ => 0 := funext fun a => by fin_cases a <;> decide
  exact Memref.read_access_unit_zero (Elt Ideal) main_v1 h (fun a => by rw [congrFun h a]; simp) _

theorem iblk4_eq (c : Dev nD) : iblk m c 4 t0 = V m c main_arg4 := by
  have h : (fun a => win0_4.index t0 a * main_arg4.ty.shape.size a) = fun _ => 0 := funext fun a => by fin_cases a <;> decide
  exact Memref.read_access_unit_zero (Elt Ideal) main_arg4 h (fun a => by rw [congrFun h a]; simp) _

theorem iblk5_eq (c : Dev nD) : iblk m c 5 t0 = V m c main_v2 := by
  have h : (fun a => win0_5.index t0 a * main_v2.ty.shape.size a) = fun _ => 0 := funext fun a => by fin_cases a <;> decide
  exact Memref.read_access_unit_zero (Elt Ideal) main_v2 h (fun a => by rw [congrFun h a]; simp) _

/-! ## The results, as arrays -/

/-- The arrays the body finds, by row and column. -/
abbrev inX (c : Dev nD) (r : Fin 16384) (k : Fin 2048) : EReal := V m c main_v0 (ix2 r k)
abbrev inH (c : Dev nD) (a b : Fin 128) : EReal := V m c main_arg1 (ix2 a b)
abbrev inW (c : Dev nD) (k : Fin 2048) (f : Fin 12288) : EReal := V m c main_arg2 (ix2 k f)
abbrev inWS (c : Dev nD) (f : Fin 12288) : EReal := V m c main_v1 (ix2 0 f)
abbrev inWD (c : Dev nD) (f : Fin 6144) (k : Fin 2048) : EReal := V m c main_arg4 (ix2 f k)
abbrev inWDS (c : Dev nD) (k : Fin 2048) : EReal := V m c main_v2 (ix2 0 k)

/-- The five results. -/
def res6 (c : Dev nD) : Vec Ideal S16384x2048 .f32 := fun i =>
  downOf (inWD m c) (inWDS m c) (hRot (inH m c) (inW m c) (inWS m c) (inX m c) (i 0)) (i 1)
def res7 (c : Dev nD) : Vec Ideal S16384x2048 .fp8e4m3 := fun i => codes (xRot (inH m c) (inX m c) (i 0)) (i 1)
def res8 (c : Dev nD) : Vec Ideal S16384x1 .f32 := fun i => scale (xRot (inH m c) (inX m c) (i 0))
def res9 (c : Dev nD) : Vec Ideal S16384x6144 .fp8e4m3 := fun i => codes (hRot (inH m c) (inW m c) (inWS m c) (inX m c) (i 0)) (i 1)
def res10 (c : Dev nD) : Vec Ideal S16384x1 .f32 := fun i => scale (hRot (inH m c) (inW m c) (inWS m c) (inX m c) (i 0))

theorem final6_of (c : Dev nD) (G : Vec Ideal S16384x2048 .f32)
    (hG : out0_6 (iblk m c 0 t0) (iblk m c 1 t0) (iblk m c 2 t0) (iblk m c 3 t0) (iblk m c 4 t0) (iblk m c 5 t0) = G) :
    (dats m 0 c).arrAt 6 cfg0.N = G := by
  have h : (fun a => win0_6.index t0 a * main_v3_0.ty.shape.size a) = fun _ => 0 := funext fun a => by fin_cases a <;> decide
  refine (dats m 0 c).arrAt_eq_of_cover 6 G (fun t _ => ?_) (fun i => ⟨t0, flush0_6 t0, ?_⟩)
  · obtain rfl : t = t0 := Fin.ext (by
      have h1 : t.val < 1 := lt_of_lt_of_eq t.isLt N_0
      have h0 : (t0 : Fin cfg0.N).val = 0 := rfl
      omega)
    rw [flushed6, hG]
    exact (Memref.read_access_unit_zero (Elt Ideal) main_v3_0 h (fun a => by rw [congrFun h a]; simp) G).symm
  · show i ∈ ((View.whole main_v3_0).slice (win0_6.rect t0)).set
    rw [View.set_slice_whole, Rect.mem_set_unit]
    intro a
    have hi := (i a).isLt
    fin_cases a <;> exact ⟨Nat.zero_le _, hi⟩

theorem final7_of (c : Dev nD) (G : Vec Ideal S16384x2048 .fp8e4m3)
    (hG : out0_7 (iblk m c 0 t0) (iblk m c 1 t0) (iblk m c 2 t0) (iblk m c 3 t0) (iblk m c 4 t0) (iblk m c 5 t0) = G) :
    (dats m 0 c).arrAt 7 cfg0.N = G := by
  have h : (fun a => win0_7.index t0 a * main_v3_1.ty.shape.size a) = fun _ => 0 := funext fun a => by fin_cases a <;> decide
  refine (dats m 0 c).arrAt_eq_of_cover 7 G (fun t _ => ?_) (fun i => ⟨t0, flush0_7 t0, ?_⟩)
  · obtain rfl : t = t0 := Fin.ext (by
      have h1 : t.val < 1 := lt_of_lt_of_eq t.isLt N_0
      have h0 : (t0 : Fin cfg0.N).val = 0 := rfl
      omega)
    rw [flushed7, hG]
    exact (Memref.read_access_unit_zero (Elt Ideal) main_v3_1 h (fun a => by rw [congrFun h a]; simp) G).symm
  · show i ∈ ((View.whole main_v3_1).slice (win0_7.rect t0)).set
    rw [View.set_slice_whole, Rect.mem_set_unit]
    intro a
    have hi := (i a).isLt
    fin_cases a <;> exact ⟨Nat.zero_le _, hi⟩

theorem final8_of (c : Dev nD) (G : Vec Ideal S16384x1 .f32)
    (hG : out0_8 (iblk m c 0 t0) (iblk m c 1 t0) (iblk m c 2 t0) (iblk m c 3 t0) (iblk m c 4 t0) (iblk m c 5 t0) = G) :
    (dats m 0 c).arrAt 8 cfg0.N = G := by
  have h : (fun a => win0_8.index t0 a * main_v3_2.ty.shape.size a) = fun _ => 0 := funext fun a => by fin_cases a <;> decide
  refine (dats m 0 c).arrAt_eq_of_cover 8 G (fun t _ => ?_) (fun i => ⟨t0, flush0_8 t0, ?_⟩)
  · obtain rfl : t = t0 := Fin.ext (by
      have h1 : t.val < 1 := lt_of_lt_of_eq t.isLt N_0
      have h0 : (t0 : Fin cfg0.N).val = 0 := rfl
      omega)
    rw [flushed8, hG]
    exact (Memref.read_access_unit_zero (Elt Ideal) main_v3_2 h (fun a => by rw [congrFun h a]; simp) G).symm
  · show i ∈ ((View.whole main_v3_2).slice (win0_8.rect t0)).set
    rw [View.set_slice_whole, Rect.mem_set_unit]
    intro a
    have hi := (i a).isLt
    fin_cases a <;> exact ⟨Nat.zero_le _, hi⟩

theorem final9_of (c : Dev nD) (G : Vec Ideal S16384x6144 .fp8e4m3)
    (hG : out0_9 (iblk m c 0 t0) (iblk m c 1 t0) (iblk m c 2 t0) (iblk m c 3 t0) (iblk m c 4 t0) (iblk m c 5 t0) = G) :
    (dats m 0 c).arrAt 9 cfg0.N = G := by
  have h : (fun a => win0_9.index t0 a * main_v3_3.ty.shape.size a) = fun _ => 0 := funext fun a => by fin_cases a <;> decide
  refine (dats m 0 c).arrAt_eq_of_cover 9 G (fun t _ => ?_) (fun i => ⟨t0, flush0_9 t0, ?_⟩)
  · obtain rfl : t = t0 := Fin.ext (by
      have h1 : t.val < 1 := lt_of_lt_of_eq t.isLt N_0
      have h0 : (t0 : Fin cfg0.N).val = 0 := rfl
      omega)
    rw [flushed9, hG]
    exact (Memref.read_access_unit_zero (Elt Ideal) main_v3_3 h (fun a => by rw [congrFun h a]; simp) G).symm
  · show i ∈ ((View.whole main_v3_3).slice (win0_9.rect t0)).set
    rw [View.set_slice_whole, Rect.mem_set_unit]
    intro a
    have hi := (i a).isLt
    fin_cases a <;> exact ⟨Nat.zero_le _, hi⟩

theorem final10_of (c : Dev nD) (G : Vec Ideal S16384x1 .f32)
    (hG : out0_10 (iblk m c 0 t0) (iblk m c 1 t0) (iblk m c 2 t0) (iblk m c 3 t0) (iblk m c 4 t0) (iblk m c 5 t0) = G) :
    (dats m 0 c).arrAt 10 cfg0.N = G := by
  have h : (fun a => win0_10.index t0 a * main_v3_4.ty.shape.size a) = fun _ => 0 := funext fun a => by fin_cases a <;> decide
  refine (dats m 0 c).arrAt_eq_of_cover 10 G (fun t _ => ?_) (fun i => ⟨t0, flush0_10 t0, ?_⟩)
  · obtain rfl : t = t0 := Fin.ext (by
      have h1 : t.val < 1 := lt_of_lt_of_eq t.isLt N_0
      have h0 : (t0 : Fin cfg0.N).val = 0 := rfl
      omega)
    rw [flushed10, hG]
    exact (Memref.read_access_unit_zero (Elt Ideal) main_v3_4 h (fun a => by rw [congrFun h a]; simp) G).symm
  · show i ∈ ((View.whole main_v3_4).slice (win0_10.rect t0)).set
    rw [View.set_slice_whole, Rect.mem_set_unit]
    intro a
    have hi := (i a).isLt
    fin_cases a <;> exact ⟨Nat.zero_le _, hi⟩

/-! ## What the body leaves in each result -/

section
variable (x0 : Vec Ideal S16384x2048 .f32) (x1 : Vec Ideal S128x128 .f32) (x2 : Vec Ideal S2048x12288 .fp8e4m3) (x3 : Vec Ideal S1x12288 .f32)
  (x4 : Vec Ideal S6144x2048 .fp8e4m3) (x5 : Vec Ideal S1x2048 .f32)

/-- The rotated hidden row of the body's operands. -/
def hRow (r : Fin 16384) : Fin 6144 → EReal :=
  hRot (fun a b => x1 (ix2 a b)) (fun k f => x2 (ix2 k f)) (fun f => x3 (ix2 0 f)) (fun r k => x0 (ix2 r k)) r

theorem xRow_eq (r : Fin 16384) : (fun c => k0_pay2 x1 x0 (ix2 r c)) = xRot (fun a b => x1 (ix2 a b)) (fun r k => x0 (ix2 r k)) r :=
  funext fun c => pay2_apply x1 x0 r c

theorem hRow_eq (r : Fin 16384) : (fun c => k0_pay7 x1 (k0_pay6 x1 x0 x2) x3 (ix2 r c)) = hRow x0 x1 x2 x3 r := by
  funext c
  rw [pay7_apply]
  unfold hRow hRot hidOf hid
  simp only [pay6_apply, pay5_apply, pay4_apply, xRow_eq]

theorem out7_apply (r : Fin 16384) (c : Fin 2048) :
    out0_7 x0 x1 x2 x3 x4 x5 (ix2 r c) = codes (xRot (fun a b => x1 (ix2 a b)) (fun r k => x0 (ix2 r k)) r) c := by
  unfold out0_7
  rw [View.canon_unit_zero hz, View.ld_unit_zero hz, View.ld_unit_zero hz, pay5_apply, xRow_eq]

theorem out8_apply (r : Fin 16384) :
    out0_8 x0 x1 x2 x3 x4 x5 (ix2 r 0) = scale (xRot (fun a b => x1 (ix2 a b)) (fun r k => x0 (ix2 r k)) r) := by
  unfold out0_8
  rw [View.canon_unit_zero hz, View.ld_unit_zero hz, View.ld_unit_zero hz, pay4_apply, xRow_eq]

theorem pay13_eq : k0_pay13 x0 x1 x2 x3 x4 x5 = k0_pay10 x1 (k0_pay6 x1 x0 x2) x3 := by
  unfold k0_pay13 k0_pay11
  repeat rw [View.ld_unit_zero hz]

theorem pay12_eq : k0_pay12 x0 x1 x2 x3 x4 x5 = k0_pay9 x1 (k0_pay6 x1 x0 x2) x3 := by
  unfold k0_pay12 k0_pay11
  repeat rw [View.ld_unit_zero hz]

theorem out9_apply (r : Fin 16384) (c : Fin 6144) : out0_9 x0 x1 x2 x3 x4 x5 (ix2 r c) = codes (hRow x0 x1 x2 x3 r) c := by
  unfold out0_9
  rw [View.canon_unit_zero hz, pay13_eq, pay10_apply, hRow_eq]

theorem out10_apply (r : Fin 16384) : out0_10 x0 x1 x2 x3 x4 x5 (ix2 r 0) = scale (hRow x0 x1 x2 x3 r) := by
  unfold out0_10
  rw [View.canon_unit_zero hz, pay12_eq, pay9_apply, hRow_eq]

theorem out6_apply (r : Fin 16384) (c : Fin 2048) :
    out0_6 x0 x1 x2 x3 x4 x5 (ix2 r c) = downOf (fun f k => x4 (ix2 f k)) (fun k => x5 (ix2 0 k)) (hRow x0 x1 x2 x3 r) c := by
  unfold out0_6
  rw [View.canon_unit_zero hz, View.ld_unit_zero hz, View.ld_unit_zero hz, pay1_apply, pay12_eq, pay13_eq, pay9_apply, hRow_eq, downOf]
  simp only [pay10_apply, hRow_eq]

end

/-! ## The results after the run -/

theorem final6 (c : Dev nD) : (dats m 0 c).arrAt 6 cfg0.N = res6 m c := by
  refine final6_of m c _ ?_
  rw [iblk0_eq, iblk1_eq, iblk2_eq, iblk3_eq, iblk4_eq, iblk5_eq]
  funext i
  rw [eq_ix2 i]
  exact out6_apply _ _ _ _ _ _ (i 0) (i 1)

theorem final7 (c : Dev nD) : (dats m 0 c).arrAt 7 cfg0.N = res7 m c := by
  refine final7_of m c _ ?_
  rw [iblk0_eq, iblk1_eq, iblk2_eq, iblk3_eq, iblk4_eq, iblk5_eq]
  funext i
  rw [eq_ix2 i]
  exact out7_apply _ _ _ _ _ _ (i 0) (i 1)

theorem final8 (c : Dev nD) : (dats m 0 c).arrAt 8 cfg0.N = res8 m c := by
  refine final8_of m c _ ?_
  rw [iblk0_eq, iblk1_eq, iblk2_eq, iblk3_eq, iblk4_eq, iblk5_eq]
  funext i
  have h0 : (ix2 (i 0) (0 : Fin 1) : S16384x1.Idx) = i := by
    rw [eq_ix2 i]
    exact congrArg (ix2 (i 0)) (Subsingleton.elim (α := Fin 1) _ _)
  rw [← h0]
  exact out8_apply _ _ _ _ _ _ (i 0)

theorem final9 (c : Dev nD) : (dats m 0 c).arrAt 9 cfg0.N = res9 m c := by
  refine final9_of m c _ ?_
  rw [iblk0_eq, iblk1_eq, iblk2_eq, iblk3_eq, iblk4_eq, iblk5_eq]
  funext i
  rw [eq_ix2 i]
  exact out9_apply _ _ _ _ _ _ (i 0) (i 1)

theorem final10 (c : Dev nD) : (dats m 0 c).arrAt 10 cfg0.N = res10 m c := by
  refine final10_of m c _ ?_
  rw [iblk0_eq, iblk1_eq, iblk2_eq, iblk3_eq, iblk4_eq, iblk5_eq]
  funext i
  have h0 : (ix2 (i 0) (0 : Fin 1) : S16384x1.Idx) = i := by
    rw [eq_ix2 i]
    exact congrArg (ix2 (i 0)) (Subsingleton.elim (α := Fin 1) _ _)
  rw [← h0]
  exact out10_apply _ _ _ _ _ _ (i 0)

end Cert.ReferenceIdeal.Value
-- ==== Proof.Agree.lean ====
/-
  The two programs' results agree: launched on equal arguments, the kernel and the reference run, end with equal results, and
  leave their arguments as they were.
-/
module

public import proofs.«01_k».proof.Defs
public import proofs.«01_k».proof.Proof.KerValue
public import proofs.«01_k».proof.Proof.RefValue

@[expose] public section

noncomputable section

open Idealize.ShloMosaic Idealize.ShloMosaic.TcCoe Idealize.SL.Sem
open Idealize.ShloMosaic.StableHlo

namespace Cert.ReferenceIdeal.Value

open Cert.ReferenceIdeal Cert.ReferenceIdeal.Gen

variable (m : (ℓ : Loc nD τ sig) → Buf (Elt Ideal) ℓ)

/-- The input as rows. -/
theorem V_v0 (c : Dev nD) : V m c main_v0 = shapeCast S16384x2048 (m ((c.tc : Thread nD τ).loc main_arg0)) shapeCasts_S8x2048x2048_S16384x2048 := by
  unfold V
  after_results
  rfl

/-- The gate and up weights' scales as one row. -/
theorem V_v1 (c : Dev nD) : V m c main_v1 = shapeCast S1x12288 (m ((c.tc : Thread nD τ).loc main_arg3)) shapeCasts_S12288_S1x12288 := by
  unfold V
  after_results
  rfl

/-- The down weights' scales as one row. -/
theorem V_v2 (c : Dev nD) : V m c main_v2 = shapeCast S1x2048 (m ((c.tc : Thread nD τ).loc main_arg5)) shapeCasts_S2048_S1x2048 := by
  unfold V
  after_results
  rfl

end Cert.ReferenceIdeal.Value

namespace Cert.Agree

open Cert.Mlp

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

/-- On device `c` the two programs are launched on equal arguments. -/
def Same (c : Dev KernelIdeal.nD) : Prop :=
  m' ((c.tc : Thread ReferenceIdeal.nD ReferenceIdeal.τ).loc ReferenceIdeal.main_arg0) = m ((c.tc : Thread KernelIdeal.nD KernelIdeal.τ).loc KernelIdeal.main_arg0)
  ∧ m' ((c.tc : Thread ReferenceIdeal.nD ReferenceIdeal.τ).loc ReferenceIdeal.main_arg1) = m ((c.tc : Thread KernelIdeal.nD KernelIdeal.τ).loc KernelIdeal.main_arg1)
  ∧ m' ((c.tc : Thread ReferenceIdeal.nD ReferenceIdeal.τ).loc ReferenceIdeal.main_arg2) = m ((c.tc : Thread KernelIdeal.nD KernelIdeal.τ).loc KernelIdeal.main_arg2)
  ∧ m' ((c.tc : Thread ReferenceIdeal.nD ReferenceIdeal.τ).loc ReferenceIdeal.main_arg3) = m ((c.tc : Thread KernelIdeal.nD KernelIdeal.τ).loc KernelIdeal.main_arg3)
  ∧ m' ((c.tc : Thread ReferenceIdeal.nD ReferenceIdeal.τ).loc ReferenceIdeal.main_arg4) = m ((c.tc : Thread KernelIdeal.nD KernelIdeal.τ).loc KernelIdeal.main_arg4)
  ∧ m' ((c.tc : Thread ReferenceIdeal.nD ReferenceIdeal.τ).loc ReferenceIdeal.main_arg5) = m ((c.tc : Thread KernelIdeal.nD KernelIdeal.τ).loc KernelIdeal.main_arg5)

variable {m m'}

/-! The arrays the two programs compute on are equal, entry by entry. -/

theorem sameX {c : Dev KernelIdeal.nD} (h : Same m m' c) : ReferenceIdeal.Value.inX m' c = KernelIdeal.Value.inX m c := by
  funext a b
  unfold ReferenceIdeal.Value.inX KernelIdeal.Value.inX
  rw [ReferenceIdeal.Value.V_v0, KernelIdeal.Value.V_v5, h.1]

theorem sameH {c : Dev KernelIdeal.nD} (h : Same m m' c) : ReferenceIdeal.Value.inH m' c = KernelIdeal.Value.argH m c := by
  funext a b
  unfold ReferenceIdeal.Value.inH KernelIdeal.Value.argH
  rw [ReferenceIdeal.Gen.V_main_arg1, h.2.1]

theorem sameW {c : Dev KernelIdeal.nD} (h : Same m m' c) : ReferenceIdeal.Value.inW m' c = KernelIdeal.Value.inW m c := by
  funext a b
  unfold ReferenceIdeal.Value.inW KernelIdeal.Value.inW
  rw [ReferenceIdeal.Gen.V_main_arg2, KernelIdeal.Gen.V_main_arg2, h.2.2.1]

theorem sameWS {c : Dev KernelIdeal.nD} (h : Same m m' c) : ReferenceIdeal.Value.inWS m' c = KernelIdeal.Value.inWS m c := by
  funext a
  unfold ReferenceIdeal.Value.inWS KernelIdeal.Value.inWS
  rw [ReferenceIdeal.Value.V_v1, KernelIdeal.Value.V_v3, h.2.2.2.1]

theorem sameWD {c : Dev KernelIdeal.nD} (h : Same m m' c) : ReferenceIdeal.Value.inWD m' c = KernelIdeal.Value.inWD m c := by
  funext a b
  unfold ReferenceIdeal.Value.inWD KernelIdeal.Value.inWD
  rw [ReferenceIdeal.Gen.V_main_arg4, KernelIdeal.Gen.V_main_arg4, h.2.2.2.2.1]

theorem sameWDS {c : Dev KernelIdeal.nD} (h : Same m m' c) : ReferenceIdeal.Value.inWDS m' c = KernelIdeal.Value.inWDS m c := by
  funext a
  unfold ReferenceIdeal.Value.inWDS KernelIdeal.Value.inWDS
  rw [ReferenceIdeal.Value.V_v2, KernelIdeal.Value.V_v4, h.2.2.2.2.2]

/-! The results are equal. -/

theorem same_res6 {c : Dev KernelIdeal.nD} (h : Same m m' c) : ReferenceIdeal.Value.res6 m' c = KernelIdeal.Value.res6 m c := by
  unfold ReferenceIdeal.Value.res6 KernelIdeal.Value.res6
  rw [sameX h, sameH h, sameW h, sameWS h, sameWD h, sameWDS h]

theorem same_res7 {c : Dev KernelIdeal.nD} (h : Same m m' c) : ReferenceIdeal.Value.res7 m' c = KernelIdeal.Value.res7 m c := by
  unfold ReferenceIdeal.Value.res7 KernelIdeal.Value.res7
  rw [sameX h, sameH h]

theorem same_res8 {c : Dev KernelIdeal.nD} (h : Same m m' c) : ReferenceIdeal.Value.res8 m' c = KernelIdeal.Value.res8 m c := by
  unfold ReferenceIdeal.Value.res8 KernelIdeal.Value.res8
  rw [sameX h, sameH h]

theorem same_res9 {c : Dev KernelIdeal.nD} (h : Same m m' c) : ReferenceIdeal.Value.res9 m' c = KernelIdeal.Value.res9 m c := by
  unfold ReferenceIdeal.Value.res9 KernelIdeal.Value.res9
  rw [sameX h, sameH h, sameW h, sameWS h]

theorem same_res10 {c : Dev KernelIdeal.nD} (h : Same m m' c) : ReferenceIdeal.Value.res10 m' c = KernelIdeal.Value.res10 m c := by
  unfold ReferenceIdeal.Value.res10 KernelIdeal.Value.res10
  rw [sameX h, sameH h, sameW h, sameWS h]

/-- The kernel and the reference, exact operation by operation, compute the same five results. -/
theorem algebraic : Cert.algebraic_KernelIdeal_ReferenceIdeal (hKernelIdeal := Cert.KernelIdeal.Gen.facts) (hReferenceIdeal := Cert.ReferenceIdeal.Gen.facts) := by
  intro m ρ m' ρ' _ hm
  refine ⟨fun c => KernelIdeal.Value.res6 m c, fun c => KernelIdeal.Value.res7 m c, fun c => KernelIdeal.Value.res8 m c,
    fun c => KernelIdeal.Value.res9 m c, fun c => KernelIdeal.Value.res10 m c, ?_, ?_⟩
  · refine (θ_run _ _ _).mono (fun r h c => ?_) (KernelIdeal.Value.run_blocks m ρ)
    obtain ⟨h6, h7, h8, h9, h10, hargs⟩ := h c
    exact ⟨h6.trans (KernelIdeal.Value.final6 m c), h7.trans (KernelIdeal.Value.final7 m c), h8.trans (KernelIdeal.Value.final8 m c),
      h9.trans (KernelIdeal.Value.final9 m c), h10.trans (KernelIdeal.Value.final10 m c), hargs⟩
  · refine (θ_run _ _ _).mono (fun r h c => ?_) (ReferenceIdeal.Value.run_blocks m' ρ')
    obtain ⟨h6, h7, h8, h9, h10, hargs⟩ := h c
    have hs : Same m m' c := hm c
    exact ⟨(h6.trans (ReferenceIdeal.Value.final6 m' c)).trans (same_res6 hs), (h7.trans (ReferenceIdeal.Value.final7 m' c)).trans (same_res7 hs),
      (h8.trans (ReferenceIdeal.Value.final8 m' c)).trans (same_res8 hs), (h9.trans (ReferenceIdeal.Value.final9 m' c)).trans (same_res9 hs),
      (h10.trans (ReferenceIdeal.Value.final10 m' c)).trans (same_res10 hs), hargs⟩

end Cert.Agree

end
-- ==== Proof.PrintRun.lean ====
/-
  One run of the body of the kernel as printed, at a grid point and for any reading of the floats: it runs to its end and leaves its
  inputs' buffers as they were; nothing is said of what it leaves in the others.
-/
module

public import proofs.«01_k».proof.Proof.Gen.Kernel.Skeleton
public import proofs.«01_k».proof.Proof.Gen.Kernel.Loops
public import proofs.«01_k».proof.Proof.Gen.Kernel.Frame
public import Idealize.ShloMosaic.Lib.Exec

@[expose] public section

set_option maxRecDepth 16384

noncomputable section

namespace Cert.Kernel.Printed

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! Each window's current buffer at a grid point, and that it is whole. -/

abbrev ms0_0 (t : Fin cfg0.N) : Memref sig .tc .vmem S256x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x12288 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x12288 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S6144x2048 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x2048 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x6144 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x1 .f32 := win0_10.stage (cfg0.slots t 10)
abbrev hs0_10 (t : Fin cfg0.N) : (ms0_10 t).IsWhole := hstage0_10 ((cfg0.slots t 10).cast nbuf0_10)

/-- The scratch buffer, whole. -/
abbrev scM0_0 : Memref sig .tc .vmem S256x6144 .f32 := Memref.whole cc0_scratch0

/-- The region's invariant, written out: the scratch buffer whole at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

set_option maxHeartbeats 1000000 in
/-- The body's triple: from whole buffers, the inputs' at their contents and the others at anything, the body runs to its end, the
    inputs' as they were and the others at some contents. -/
theorem kernelRun0_A (c : Dev nD) (i : grid0.Coords) (arg1 : Memref sig .tc .vmem S256x2048 .f32) (harg1 : arg1.IsWhole) (arg2 : Memref sig .tc .vmem S256x256 .bf16) (harg2 : arg2.IsWhole) (arg3 : Memref sig .tc .vmem S2048x12288 .fp8e4m3) (harg3 : arg3.IsWhole) (arg4 : Memref sig .tc .vmem S1x12288 .f32) (harg4 : arg4.IsWhole) (arg5 : Memref sig .tc .vmem S6144x2048 .fp8e4m3) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .fp8e4m3) (harg8 : arg8.IsWhole) (arg9 : Memref sig .tc .vmem S256x1 .f32) (harg9 : arg9.IsWhole) (arg10 : Memref sig .tc .vmem S256x6144 .fp8e4m3) (harg10 : arg10.IsWhole) (arg11 : Memref sig .tc .vmem S256x1 .f32) (harg11 : arg11.IsWhole) (arg12 : Memref sig .tc .vmem S256x6144 .f32) (harg12 : arg12.IsWhole)
    (x0 : Vec F S256x2048 .f32) (x1 : Vec F S256x256 .bf16) (x2 : Vec F S2048x12288 .fp8e4m3) (x3 : Vec F S1x12288 .f32) (x4 : Vec F S6144x2048 .fp8e4m3) (x5 : Vec F S1x2048 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12) K := by
    intro E K
    simp only [cc0__mlp_kernel_eq_skeleton]; unfold cc0__mlp_kernel_skel
    simp only [k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact HS0
    ipureintro; rfl

end Cert.Kernel.Printed

end
-- ==== Proof.PrintFrame.lean ====
/-
  The frame of the kernel as printed, for any reading of the floats: it terminates, its arguments unchanged.
-/
module

public import proofs.«01_k».proof.Proof.PrintRun
public import Idealize.ShloMosaic.Lib.Pipeline.FrameBody
public import Idealize.ShloMosaic.Lib.Claim

@[expose] public section

set_option maxRecDepth 16384

noncomputable section

namespace Cert.Kernel.Printed

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- From a run whose last state has the staged inputs and the unstaged arrays as the region found them, the arguments are unchanged. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((hA c 2).trans (V_main_arg2 m c)),
      ((h c).2 main_arg3 (Pipeline.mem_restRefs_of main_arg3 (by decide) (by decide))).trans (V_main_arg3 m c),
      (Pipeline.RDat.FramePost.arr_in h c 4 rfl).trans ((hA c 4).trans (V_main_arg4 m c)),
      ((h c).2 main_arg5 (Pipeline.mem_restRefs_of main_arg5 (by decide) (by decide))).trans (V_main_arg5 m c)⟩) h

/-! ## The pipeline's proof data -/

/-- The windows of the five results: nothing is said of their contents. -/
def forgets0 : Fin 11 → Bool := fun w => w.val == 6 || w.val == 7 || w.val == 8 || w.val == 9 || w.val == 10

/-- The arrays as the region finds them; after the body at a point each input's buffer at its block, and the results' at contents not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

/-- The proof data's arrays are those that the region finds. -/
theorem A_eq (c : Dev nD) (w : Fin cfg0.W) : (dats m 0 c).A w = V m c (Pipeline.arrRef spec0 w) := by
  dsimp only [dats]

/-! What the body leaves, window by window. -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-! Each input's current buffer holds its block at every point. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 1200000 in
/-- The body at any point, from its triple. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_A c (grid0.coords t) _ _ _ _ _ _ _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [HS0]; · iexact HS0
  iintro ⟨H0, H1, H2, H3, H4, H5, H6, H7, H8, H9, H10, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body that the table gives at a point's buffers. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- The whole run: the staged inputs and the unstaged arrays end as the region found them, every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- The frame: every run of the kernel as printed terminates, its arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Printed

end
-- ==== Proof.lean ====
/-
  The proof of `Cert.Claim`: the kernel as printed, the kernel read exactly and the reference read exactly each terminate with
  their arguments unchanged and every semaphore counter at zero; reading the kernel exactly rewrote no operation; and the two
  exact programs compute the same five results.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Agree
public import proofs.«01_k».proof.Proof.PrintFrame
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts,
  fun m ρ _ => Cert.Kernel.Printed.frame m ρ, fun m ρ _ => Cert.KernelIdeal.Value.frame_claim m ρ, fun m ρ _ => Cert.ReferenceIdeal.Gen.frame m ρ,
  trivial, Cert.Agree.algebraic⟩

end Cert.Proof

end
